-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S1x1 : Shape := ⟨2, ![1, 1]⟩
abbrev S_ : Shape := ⟨0, ![]⟩
abbrev S256x2048 : Shape := ⟨2, ![256, 2048]⟩
abbrev S1x256x2048 : Shape := ⟨3, ![1, 256, 2048]⟩
abbrev S1 : Shape := ⟨1, ![1]⟩
abbrev S1x1x1 : Shape := ⟨3, ![1, 1, 1]⟩

abbrev nBuf : Space → Nat
  | .hbm => 6
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S4096x2048 : Shape := ⟨2, ![4096, 2048]⟩
abbrev S_ : Shape := ⟨0, ![]⟩
abbrev S4096x2048x1 : Shape := ⟨3, ![4096, 2048, 1]⟩
abbrev S1 : Shape := ⟨1, ![1]⟩
abbrev S1x1x1 : Shape := ⟨3, ![1, 1, 1]⟩
abbrev S4096x4096 : Shape := ⟨2, ![4096, 4096]⟩
abbrev S4096x1x2048 : Shape := ⟨3, ![4096, 1, 2048]⟩
abbrev S4096x4096x1 : Shape := ⟨3, ![4096, 4096, 1]⟩
abbrev S4096x4096x2048 : Shape := ⟨3, ![4096, 4096, 2048]⟩
abbrev S4096x4097 : Shape := ⟨2, ![4096, 4097]⟩
abbrev S4096 : Shape := ⟨1, ![4096]⟩

abbrev nBuf : Space → Nat
  | .hbm => 199
  | .vmem => 0
  | .smem => 0
  | _ => 0

abbrev hbmTy0_0 (i : Nat) : BufTy := match i % 128 with
  | 0 => ⟨S4096x2048, .f32⟩
  | 1 => ⟨S4096x2048, .f32⟩
  | 2 => ⟨S_, .f32⟩
  | 3 => ⟨S4096x2048, .f32⟩
  | 4 => ⟨S_, .f32⟩
  | 5 => ⟨S4096x2048, .f32⟩
  | 6 => ⟨S4096x2048, .i32⟩
  | 7 => ⟨S4096x2048, .f32⟩
  | 8 => ⟨S4096x2048, .i32⟩
  | 9 => ⟨S4096x2048, .i32⟩
  | 10 => ⟨S4096x2048, .f32⟩
  | 11 => ⟨S4096x2048, .i32⟩
  | 12 => ⟨S_, .i32⟩
  | 13 => ⟨S4096x2048, .i32⟩
  | 14 => ⟨S4096x2048, .i1⟩
  | 15 => ⟨S_, .i32⟩
  | 16 => ⟨S4096x2048, .i32⟩
  | 17 => ⟨S4096x2048, .i32⟩
  | 18 => ⟨S4096x2048, .i32⟩
  | 19 => ⟨S4096x2048x1, .i32⟩
  | 20 => ⟨S1, .i32⟩
  | 21 => ⟨S_, .i32⟩
  | 22 => ⟨S4096x2048x1, .i32⟩
  | 23 => ⟨S4096x2048x1, .i1⟩
  | 24 => ⟨S1x1x1, .i32⟩
  | 25 => ⟨S4096x2048x1, .i32⟩
  | 26 => ⟨S4096x2048x1, .i1⟩
  | 27 => ⟨S4096x2048x1, .i1⟩
  | 28 => ⟨S_, .i1⟩
  | 29 => ⟨S4096x2048, .i1⟩
  | 30 => ⟨S4096x2048, .f32⟩
  | 31 => ⟨S_, .f32⟩
  | 32 => ⟨S4096x2048, .f32⟩
  | 33 => ⟨S4096x2048, .f32⟩
  | 34 => ⟨S_, .i32⟩
  | 35 => ⟨S4096x2048, .i32⟩
  | 36 => ⟨S4096x2048, .i1⟩
  | 37 => ⟨S_, .i32⟩
  | 38 => ⟨S4096x2048, .i32⟩
  | 39 => ⟨S4096x2048, .i32⟩
  | 40 => ⟨S4096x2048, .i32⟩
  | 41 => ⟨S4096x2048x1, .i32⟩
  | 42 => ⟨S1, .i32⟩
  | 43 => ⟨S_, .i32⟩
  | 44 => ⟨S4096x2048x1, .i32⟩
  | 45 => ⟨S4096x2048x1, .i1⟩
  | 46 => ⟨S1x1x1, .i32⟩
  | 47 => ⟨S4096x2048x1, .i32⟩
  | 48 => ⟨S4096x2048x1, .i1⟩
  | 49 => ⟨S4096x2048x1, .i1⟩
  | 50 => ⟨S_, .i1⟩
  | 51 => ⟨S4096x2048, .i1⟩
  | 52 => ⟨S4096x2048, .f32⟩
  | 53 => ⟨S_, .f32⟩
  | 54 => ⟨S4096x2048, .f32⟩
  | 55 => ⟨S4096x2048, .f32⟩
  | 56 => ⟨S_, .i32⟩
  | 57 => ⟨S4096x2048, .i32⟩
  | 58 => ⟨S4096x2048, .i1⟩
  | 59 => ⟨S_, .i32⟩
  | 60 => ⟨S4096x2048, .i32⟩
  | 61 => ⟨S4096x2048, .i32⟩
  | 62 => ⟨S4096x2048, .i32⟩
  | 63 => ⟨S4096x2048x1, .i32⟩
  | 64 => ⟨S1, .i32⟩
  | 65 => ⟨S_, .i32⟩
  | 66 => ⟨S4096x2048x1, .i32⟩
  | 67 => ⟨S4096x2048x1, .i1⟩
  | 68 => ⟨S1x1x1, .i32⟩
  | 69 => ⟨S4096x2048x1, .i32⟩
  | 70 => ⟨S4096x2048x1, .i1⟩
  | 71 => ⟨S4096x2048x1, .i1⟩
  | 72 => ⟨S_, .i1⟩
  | 73 => ⟨S4096x2048, .i1⟩
  | 74 => ⟨S4096x2048, .f32⟩
  | 75 => ⟨S_, .f32⟩
  | 76 => ⟨S4096x2048, .f32⟩
  | 77 => ⟨S4096x2048, .f32⟩
  | 78 => ⟨S_, .i32⟩
  | 79 => ⟨S4096x2048, .i32⟩
  | 80 => ⟨S4096x2048, .i1⟩
  | 81 => ⟨S_, .i32⟩
  | 82 => ⟨S4096x2048, .i32⟩
  | 83 => ⟨S4096x2048, .i32⟩
  | 84 => ⟨S4096x2048, .i32⟩
  | 85 => ⟨S4096x2048x1, .i32⟩
  | 86 => ⟨S1, .i32⟩
  | 87 => ⟨S_, .i32⟩
  | 88 => ⟨S4096x2048x1, .i32⟩
  | 89 => ⟨S4096x2048x1, .i1⟩
  | 90 => ⟨S1x1x1, .i32⟩
  | 91 => ⟨S4096x2048x1, .i32⟩
  | 92 => ⟨S4096x2048x1, .i1⟩
  | 93 => ⟨S4096x2048x1, .i1⟩
  | 94 => ⟨S_, .i1⟩
  | 95 => ⟨S4096x2048, .i1⟩
  | 96 => ⟨S4096x2048, .f32⟩
  | 97 => ⟨S_, .f32⟩
  | 98 => ⟨S4096x2048, .f32⟩
  | 99 => ⟨S4096x2048, .f32⟩
  | 100 => ⟨S_, .f32⟩
  | 101 => ⟨S_, .f32⟩
  | 102 => ⟨S4096x2048, .f32⟩
  | 103 => ⟨S_, .f32⟩
  | 104 => ⟨S_, .f32⟩
  | 105 => ⟨S4096x2048, .f32⟩
  | 106 => ⟨S4096x4096, .f32⟩
  | 107 => ⟨S4096x4096, .f32⟩
  | 108 => ⟨S4096x1x2048, .f32⟩
  | 109 => ⟨S4096x4096x1, .f32⟩
  | 110 => ⟨S4096x4096x2048, .f32⟩
  | 111 => ⟨S4096x4096x2048, .f32⟩
  | 112 => ⟨S4096x4096x2048, .i1⟩
  | 113 => ⟨S4096x4096x2048, .i32⟩
  | 114 => ⟨S_, .i32⟩
  | 115 => ⟨S4096x4096, .i32⟩
  | 116 => ⟨S_, .i32⟩
  | 117 => ⟨S_, .i32⟩
  | 118 => ⟨S_, .i32⟩
  | 119 => ⟨S4096x4096, .i32⟩
  | 120 => ⟨S4096x4096, .i32⟩
  | 121 => ⟨S_, .i32⟩
  | 122 => ⟨S4096x4096, .i32⟩
  | 123 => ⟨S4096x4096, .i32⟩
  | 124 => ⟨S_, .i32⟩
  | 125 => ⟨S4096x4096, .i32⟩
  | 126 => ⟨S4096x4096, .i1⟩
  | 127 => ⟨S_, .i32⟩
  | _ => ⟨S4096x2048, .f32⟩

abbrev hbmTy0_1 (i : Nat) : BufTy := match i % 128 with
  | 0 => ⟨S4096x4096, .i32⟩
  | 1 => ⟨S4096x4096, .i32⟩
  | 2 => ⟨S4096x4096, .i32⟩
  | 3 => ⟨S4096x4096x1, .i32⟩
  | 4 => ⟨S1, .i32⟩
  | 5 => ⟨S_, .i32⟩
  | 6 => ⟨S4096x4096x1, .i32⟩
  | 7 => ⟨S4096x4096x1, .i1⟩
  | 8 => ⟨S1x1x1, .i32⟩
  | 9 => ⟨S4096x4096x1, .i32⟩
  | 10 => ⟨S4096x4096x1, .i1⟩
  | 11 => ⟨S4096x4096x1, .i1⟩
  | 12 => ⟨S_, .i1⟩
  | 13 => ⟨S4096x4096, .i1⟩
  | 14 => ⟨S4096x4096, .f32⟩
  | 15 => ⟨S_, .f32⟩
  | 16 => ⟨S4096x4096, .f32⟩
  | 17 => ⟨S4096x4096, .f32⟩
  | 18 => ⟨S4096x1x2048, .f32⟩
  | 19 => ⟨S4096x4096x1, .f32⟩
  | 20 => ⟨S4096x4096x2048, .f32⟩
  | 21 => ⟨S4096x4096x2048, .f32⟩
  | 22 => ⟨S4096x4096x2048, .i1⟩
  | 23 => ⟨S4096x4096x2048, .i32⟩
  | 24 => ⟨S_, .i32⟩
  | 25 => ⟨S4096x4096, .i32⟩
  | 26 => ⟨S_, .i32⟩
  | 27 => ⟨S_, .i32⟩
  | 28 => ⟨S_, .i32⟩
  | 29 => ⟨S4096x4096, .i32⟩
  | 30 => ⟨S4096x4096, .i32⟩
  | 31 => ⟨S_, .i32⟩
  | 32 => ⟨S4096x4096, .i32⟩
  | 33 => ⟨S4096x4096, .i32⟩
  | 34 => ⟨S_, .i32⟩
  | 35 => ⟨S4096x4096, .i32⟩
  | 36 => ⟨S4096x4096, .i1⟩
  | 37 => ⟨S_, .i32⟩
  | 38 => ⟨S4096x4096, .i32⟩
  | 39 => ⟨S4096x4096, .i32⟩
  | 40 => ⟨S4096x4096, .i32⟩
  | 41 => ⟨S4096x4096x1, .i32⟩
  | 42 => ⟨S1, .i32⟩
  | 43 => ⟨S_, .i32⟩
  | 44 => ⟨S4096x4096x1, .i32⟩
  | 45 => ⟨S4096x4096x1, .i1⟩
  | 46 => ⟨S1x1x1, .i32⟩
  | 47 => ⟨S4096x4096x1, .i32⟩
  | 48 => ⟨S4096x4096x1, .i1⟩
  | 49 => ⟨S4096x4096x1, .i1⟩
  | 50 => ⟨S_, .i1⟩
  | 51 => ⟨S4096x4096, .i1⟩
  | 52 => ⟨S4096x4096, .f32⟩
  | 53 => ⟨S_, .f32⟩
  | 54 => ⟨S4096x4096, .f32⟩
  | 55 => ⟨S4096x4096, .f32⟩
  | 56 => ⟨S_, .i32⟩
  | 57 => ⟨S_, .f32⟩
  | 58 => ⟨S4096x4097, .f32⟩
  | 59 => ⟨S4096x4096, .f32⟩
  | 60 => ⟨S4096x4096, .f32⟩
  | 61 => ⟨S4096x4096, .f32⟩
  | 62 => ⟨S4096x4096, .f32⟩
  | 63 => ⟨S4096x4096, .f32⟩
  | 64 => ⟨S4096x4096, .f32⟩
  | 65 => ⟨S_, .f32⟩
  | 66 => ⟨S4096, .f32⟩
  | 67 => ⟨S_, .f32⟩
  | 68 => ⟨S_, .f32⟩
  | 69 => ⟨S_, .f32⟩
  | 70 => ⟨S_, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_call0_v0 : Ref sig .tc := ⟨.hbm, 6, rfl⟩
abbrev main_call0_v1_0 : Ref sig .tc := ⟨.hbm, 7, rfl⟩
abbrev main_v2 : Ref sig .tc := ⟨.hbm, 8, rfl⟩
abbrev main_call1_v0 : Ref sig .tc := ⟨.hbm, 9, rfl⟩
abbrev main_call1_v1_0 : Ref sig .tc := ⟨.hbm, 10, rfl⟩
abbrev main_v3 : Ref sig .tc := ⟨.hbm, 11, rfl⟩
abbrev main_call2_c : Ref sig .tc := ⟨.hbm, 12, rfl⟩
abbrev main_call2_v0 : Ref sig .tc := ⟨.hbm, 13, rfl⟩
abbrev main_call2_v1 : Ref sig .tc := ⟨.hbm, 14, rfl⟩
abbrev main_call2_c_0 : Ref sig .tc := ⟨.hbm, 15, rfl⟩
abbrev main_call2_v2 : Ref sig .tc := ⟨.hbm, 16, rfl⟩
abbrev main_call2_v3 : Ref sig .tc := ⟨.hbm, 17, rfl⟩
abbrev main_call2_v4 : Ref sig .tc := ⟨.hbm, 18, rfl⟩
abbrev main_call2_v5 : Ref sig .tc := ⟨.hbm, 19, rfl⟩
abbrev main_call2_c_1 : Ref sig .tc := ⟨.hbm, 20, rfl⟩
abbrev main_call2_c_2 : Ref sig .tc := ⟨.hbm, 21, rfl⟩
abbrev main_call2_v6 : Ref sig .tc := ⟨.hbm, 22, rfl⟩
abbrev main_call2_v7 : Ref sig .tc := ⟨.hbm, 23, rfl⟩
abbrev main_call2_v8 : Ref sig .tc := ⟨.hbm, 24, rfl⟩
abbrev main_call2_v9 : Ref sig .tc := ⟨.hbm, 25, rfl⟩
abbrev main_call2_v10 : Ref sig .tc := ⟨.hbm, 26, rfl⟩
abbrev main_call2_v11 : Ref sig .tc := ⟨.hbm, 27, rfl⟩
abbrev main_call2_c_3 : Ref sig .tc := ⟨.hbm, 28, rfl⟩
abbrev main_call2_v12 : Ref sig .tc := ⟨.hbm, 29, rfl⟩
abbrev main_call2_v13 : Ref sig .tc := ⟨.hbm, 30, rfl⟩
abbrev main_call2_cst : Ref sig .tc := ⟨.hbm, 31, rfl⟩
abbrev main_call2_v14 : Ref sig .tc := ⟨.hbm, 32, rfl⟩
abbrev main_v4 : Ref sig .tc := ⟨.hbm, 33, rfl⟩
abbrev main_call3_c : Ref sig .tc := ⟨.hbm, 34, rfl⟩
abbrev main_call3_v0 : Ref sig .tc := ⟨.hbm, 35, rfl⟩
abbrev main_call3_v1 : Ref sig .tc := ⟨.hbm, 36, rfl⟩
abbrev main_call3_c_0 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_call3_v5 : Ref sig .tc := ⟨.hbm, 41, rfl⟩
abbrev main_call3_c_1 : Ref sig .tc := ⟨.hbm, 42, rfl⟩
abbrev main_call3_c_2 : Ref sig .tc := ⟨.hbm, 43, rfl⟩
abbrev main_call3_v6 : Ref sig .tc := ⟨.hbm, 44, rfl⟩
abbrev main_call3_v7 : Ref sig .tc := ⟨.hbm, 45, rfl⟩
abbrev main_call3_v8 : Ref sig .tc := ⟨.hbm, 46, rfl⟩
abbrev main_call3_v9 : Ref sig .tc := ⟨.hbm, 47, rfl⟩
abbrev main_call3_v10 : Ref sig .tc := ⟨.hbm, 48, rfl⟩
abbrev main_call3_v11 : Ref sig .tc := ⟨.hbm, 49, rfl⟩
abbrev main_call3_c_3 : Ref sig .tc := ⟨.hbm, 50, rfl⟩
abbrev main_call3_v12 : Ref sig .tc := ⟨.hbm, 51, rfl⟩
abbrev main_call3_v13 : Ref sig .tc := ⟨.hbm, 52, rfl⟩
abbrev main_call3_cst : Ref sig .tc := ⟨.hbm, 53, rfl⟩
abbrev main_call3_v14 : Ref sig .tc := ⟨.hbm, 54, rfl⟩
abbrev main_v5 : Ref sig .tc := ⟨.hbm, 55, rfl⟩
abbrev main_call4_c : Ref sig .tc := ⟨.hbm, 56, rfl⟩
abbrev main_call4_v0 : Ref sig .tc := ⟨.hbm, 57, rfl⟩
abbrev main_call4_v1 : Ref sig .tc := ⟨.hbm, 58, rfl⟩
abbrev main_call4_c_0 : Ref sig .tc := ⟨.hbm, 59, rfl⟩
abbrev main_call4_v2 : Ref sig .tc := ⟨.hbm, 60, rfl⟩
abbrev main_call4_v3 : Ref sig .tc := ⟨.hbm, 61, rfl⟩
abbrev main_call4_v4 : Ref sig .tc := ⟨.hbm, 62, rfl⟩
abbrev main_call4_v5 : Ref sig .tc := ⟨.hbm, 63, rfl⟩
abbrev main_call4_c_1 : Ref sig .tc := ⟨.hbm, 64, rfl⟩
abbrev main_call4_c_2 : Ref sig .tc := ⟨.hbm, 65, rfl⟩
abbrev main_call4_v6 : Ref sig .tc := ⟨.hbm, 66, rfl⟩
abbrev main_call4_v7 : Ref sig .tc := ⟨.hbm, 67, rfl⟩
abbrev main_call4_v8 : Ref sig .tc := ⟨.hbm, 68, rfl⟩
abbrev main_call4_v9 : Ref sig .tc := ⟨.hbm, 69, rfl⟩
abbrev main_call4_v10 : Ref sig .tc := ⟨.hbm, 70, rfl⟩
abbrev main_call4_v11 : Ref sig .tc := ⟨.hbm, 71, rfl⟩
abbrev main_call4_c_3 : Ref sig .tc := ⟨.hbm, 72, rfl⟩
abbrev main_call4_v12 : Ref sig .tc := ⟨.hbm, 73, rfl⟩
abbrev main_call4_v13 : Ref sig .tc := ⟨.hbm, 74, rfl⟩
abbrev main_call4_cst : Ref sig .tc := ⟨.hbm, 75, rfl⟩
abbrev main_call4_v14 : Ref sig .tc := ⟨.hbm, 76, rfl⟩
abbrev main_v6 : Ref sig .tc := ⟨.hbm, 77, rfl⟩
abbrev main_call5_c : Ref sig .tc := ⟨.hbm, 78, rfl⟩
abbrev main_call5_v0 : Ref sig .tc := ⟨.hbm, 79, rfl⟩
abbrev main_call5_v1 : Ref sig .tc := ⟨.hbm, 80, rfl⟩
abbrev main_call5_c_0 : Ref sig .tc := ⟨.hbm, 81, rfl⟩
abbrev main_call5_v2 : Ref sig .tc := ⟨.hbm, 82, rfl⟩
abbrev main_call5_v3 : Ref sig .tc := ⟨.hbm, 83, rfl⟩
abbrev main_call5_v4 : Ref sig .tc := ⟨.hbm, 84, rfl⟩
abbrev main_call5_v5 : Ref sig .tc := ⟨.hbm, 85, rfl⟩
abbrev main_call5_c_1 : Ref sig .tc := ⟨.hbm, 86, rfl⟩
abbrev main_call5_c_2 : Ref sig .tc := ⟨.hbm, 87, rfl⟩
abbrev main_call5_v6 : Ref sig .tc := ⟨.hbm, 88, rfl⟩
abbrev main_call5_v7 : Ref sig .tc := ⟨.hbm, 89, rfl⟩
abbrev main_call5_v8 : Ref sig .tc := ⟨.hbm, 90, rfl⟩
abbrev main_call5_v9 : Ref sig .tc := ⟨.hbm, 91, rfl⟩
abbrev main_call5_v10 : Ref sig .tc := ⟨.hbm, 92, rfl⟩
abbrev main_call5_v11 : Ref sig .tc := ⟨.hbm, 93, rfl⟩
abbrev main_call5_c_3 : Ref sig .tc := ⟨.hbm, 94, rfl⟩
abbrev main_call5_v12 : Ref sig .tc := ⟨.hbm, 95, rfl⟩
abbrev main_call5_v13 : Ref sig .tc := ⟨.hbm, 96, rfl⟩
abbrev main_call5_cst : Ref sig .tc := ⟨.hbm, 97, rfl⟩
abbrev main_call5_v14 : Ref sig .tc := ⟨.hbm, 98, rfl⟩
abbrev main_v7 : Ref sig .tc := ⟨.hbm, 99, rfl⟩
abbrev main_call6_call0_cst : Ref sig .tc := ⟨.hbm, 100, rfl⟩
abbrev main_call6_call0_v0 : Ref sig .tc := ⟨.hbm, 101, rfl⟩
abbrev main_v8 : Ref sig .tc := ⟨.hbm, 102, rfl⟩
abbrev main_call7_call0_cst : Ref sig .tc := ⟨.hbm, 103, rfl⟩
abbrev main_call7_call0_v0 : Ref sig .tc := ⟨.hbm, 104, rfl⟩
abbrev main_v9 : Ref sig .tc := ⟨.hbm, 105, rfl⟩
abbrev main_v10 : Ref sig .tc := ⟨.hbm, 106, rfl⟩
abbrev main_v11 : Ref sig .tc := ⟨.hbm, 107, rfl⟩
abbrev main_v12 : Ref sig .tc := ⟨.hbm, 108, rfl⟩
abbrev main_v13 : Ref sig .tc := ⟨.hbm, 109, rfl⟩
abbrev main_v14 : Ref sig .tc := ⟨.hbm, 110, rfl⟩
abbrev main_v15 : Ref sig .tc := ⟨.hbm, 111, rfl⟩
abbrev main_v16 : Ref sig .tc := ⟨.hbm, 112, rfl⟩
abbrev main_v17 : Ref sig .tc := ⟨.hbm, 113, rfl⟩
abbrev main_c : Ref sig .tc := ⟨.hbm, 114, rfl⟩
abbrev main_v18 : Ref sig .tc := ⟨.hbm, 115, rfl⟩
abbrev main_c_1 : Ref sig .tc := ⟨.hbm, 116, rfl⟩
abbrev main_c_2 : Ref sig .tc := ⟨.hbm, 117, rfl⟩
abbrev main_call9_v0 : Ref sig .tc := ⟨.hbm, 118, rfl⟩
abbrev main_call9_v1 : Ref sig .tc := ⟨.hbm, 119, rfl⟩
abbrev main_call9_v2 : Ref sig .tc := ⟨.hbm, 120, rfl⟩
abbrev main_call9_v3 : Ref sig .tc := ⟨.hbm, 121, rfl⟩
abbrev main_call9_v4 : Ref sig .tc := ⟨.hbm, 122, rfl⟩
abbrev main_v19 : Ref sig .tc := ⟨.hbm, 123, rfl⟩
abbrev main_call10_c : Ref sig .tc := ⟨.hbm, 124, rfl⟩
abbrev main_call10_v0 : Ref sig .tc := ⟨.hbm, 125, rfl⟩
abbrev main_call10_v1 : Ref sig .tc := ⟨.hbm, 126, rfl⟩
abbrev main_call10_c_0 : Ref sig .tc := ⟨.hbm, 127, rfl⟩
abbrev main_call10_v2 : Ref sig .tc := ⟨.hbm, 128, rfl⟩
abbrev main_call10_v3 : Ref sig .tc := ⟨.hbm, 129, rfl⟩
abbrev main_call10_v4 : Ref sig .tc := ⟨.hbm, 130, rfl⟩
abbrev main_call10_v5 : Ref sig .tc := ⟨.hbm, 131, rfl⟩
abbrev main_call10_c_1 : Ref sig .tc := ⟨.hbm, 132, rfl⟩
abbrev main_call10_c_2 : Ref sig .tc := ⟨.hbm, 133, rfl⟩
abbrev main_call10_v6 : Ref sig .tc := ⟨.hbm, 134, rfl⟩
abbrev main_call10_v7 : Ref sig .tc := ⟨.hbm, 135, rfl⟩
abbrev main_call10_v8 : Ref sig .tc := ⟨.hbm, 136, rfl⟩
abbrev main_call10_v9 : Ref sig .tc := ⟨.hbm, 137, rfl⟩
abbrev main_call10_v10 : Ref sig .tc := ⟨.hbm, 138, rfl⟩
abbrev main_call10_v11 : Ref sig .tc := ⟨.hbm, 139, rfl⟩
abbrev main_call10_c_3 : Ref sig .tc := ⟨.hbm, 140, rfl⟩
abbrev main_call10_v12 : Ref sig .tc := ⟨.hbm, 141, rfl⟩
abbrev main_call10_v13 : Ref sig .tc := ⟨.hbm, 142, rfl⟩
abbrev main_call10_cst : Ref sig .tc := ⟨.hbm, 143, rfl⟩
abbrev main_call10_v14 : Ref sig .tc := ⟨.hbm, 144, rfl⟩
abbrev main_v20 : Ref sig .tc := ⟨.hbm, 145, rfl⟩
abbrev main_v21 : Ref sig .tc := ⟨.hbm, 146, rfl⟩
abbrev main_v22 : Ref sig .tc := ⟨.hbm, 147, rfl⟩
abbrev main_v23 : Ref sig .tc := ⟨.hbm, 148, rfl⟩
abbrev main_v24 : Ref sig .tc := ⟨.hbm, 149, rfl⟩
abbrev main_v25 : Ref sig .tc := ⟨.hbm, 150, rfl⟩
abbrev main_v26 : Ref sig .tc := ⟨.hbm, 151, rfl⟩
abbrev main_c_3 : Ref sig .tc := ⟨.hbm, 152, rfl⟩
abbrev main_v27 : Ref sig .tc := ⟨.hbm, 153, rfl⟩
abbrev main_c_4 : Ref sig .tc := ⟨.hbm, 154, rfl⟩
abbrev main_c_5 : Ref sig .tc := ⟨.hbm, 155, rfl⟩
abbrev main_call11_v0 : Ref sig .tc := ⟨.hbm, 156, rfl⟩
abbrev main_call11_v1 : Ref sig .tc := ⟨.hbm, 157, rfl⟩
abbrev main_call11_v2 : Ref sig .tc := ⟨.hbm, 158, rfl⟩
abbrev main_call11_v3 : Ref sig .tc := ⟨.hbm, 159, rfl⟩
abbrev main_call11_v4 : Ref sig .tc := ⟨.hbm, 160, rfl⟩
abbrev main_v28 : Ref sig .tc := ⟨.hbm, 161, rfl⟩
abbrev main_call12_c : Ref sig .tc := ⟨.hbm, 162, rfl⟩
abbrev main_call12_v0 : Ref sig .tc := ⟨.hbm, 163, rfl⟩
abbrev main_call12_v1 : Ref sig .tc := ⟨.hbm, 164, rfl⟩
abbrev main_call12_c_0 : Ref sig .tc := ⟨.hbm, 165, rfl⟩
abbrev main_call12_v2 : Ref sig .tc := ⟨.hbm, 166, rfl⟩
abbrev main_call12_v3 : Ref sig .tc := ⟨.hbm, 167, rfl⟩
abbrev main_call12_v4 : Ref sig .tc := ⟨.hbm, 168, rfl⟩
abbrev main_call12_v5 : Ref sig .tc := ⟨.hbm, 169, rfl⟩
abbrev main_call12_c_1 : Ref sig .tc := ⟨.hbm, 170, rfl⟩
abbrev main_call12_c_2 : Ref sig .tc := ⟨.hbm, 171, rfl⟩
abbrev main_call12_v6 : Ref sig .tc := ⟨.hbm, 172, rfl⟩
abbrev main_call12_v7 : Ref sig .tc := ⟨.hbm, 173, rfl⟩
abbrev main_call12_v8 : Ref sig .tc := ⟨.hbm, 174, rfl⟩
abbrev main_call12_v9 : Ref sig .tc := ⟨.hbm, 175, rfl⟩
abbrev main_call12_v10 : Ref sig .tc := ⟨.hbm, 176, rfl⟩
abbrev main_call12_v11 : Ref sig .tc := ⟨.hbm, 177, rfl⟩
abbrev main_call12_c_3 : Ref sig .tc := ⟨.hbm, 178, rfl⟩
abbrev main_call12_v12 : Ref sig .tc := ⟨.hbm, 179, rfl⟩
abbrev main_call12_v13 : Ref sig .tc := ⟨.hbm, 180, rfl⟩
abbrev main_call12_cst : Ref sig .tc := ⟨.hbm, 181, rfl⟩
abbrev main_call12_v14 : Ref sig .tc := ⟨.hbm, 182, rfl⟩
abbrev main_v29 : Ref sig .tc := ⟨.hbm, 183, rfl⟩
abbrev main_c_6 : Ref sig .tc := ⟨.hbm, 184, rfl⟩
abbrev main_call13_v0 : Ref sig .tc := ⟨.hbm, 185, rfl⟩
abbrev main_v30 : Ref sig .tc := ⟨.hbm, 186, rfl⟩
abbrev main_v31 : Ref sig .tc := ⟨.hbm, 187, rfl⟩
abbrev main_v32 : Ref sig .tc := ⟨.hbm, 188, rfl⟩
abbrev main_v33 : Ref sig .tc := ⟨.hbm, 189, rfl⟩
abbrev main_v34 : Ref sig .tc := ⟨.hbm, 190, rfl⟩
abbrev main_v35 : Ref sig .tc := ⟨.hbm, 191, rfl⟩
abbrev main_v36 : Ref sig .tc := ⟨.hbm, 192, rfl⟩
abbrev main_cst_7 : Ref sig .tc := ⟨.hbm, 193, rfl⟩
abbrev main_v37 : Ref sig .tc := ⟨.hbm, 194, rfl⟩
abbrev main_cst_8 : Ref sig .tc := ⟨.hbm, 195, rfl⟩
abbrev main_v38 : Ref sig .tc := ⟨.hbm, 196, rfl⟩
abbrev main_cst_9 : Ref sig .tc := ⟨.hbm, 197, rfl⟩
abbrev main_v39 : Ref sig .tc := ⟨.hbm, 198, rfl⟩

abbrev nD : Nat := 1
abbrev τ : Topo := Topo.v7x

variable {F : FTy → Type} [FloatOps F]
-- ==== Proof.BlockSort.lean ====
/-
  The sort one block of the kernel runs, as a fold of ONE printed stage: 66 stages over a block of 256 rows, each row sorted
  along its 2048 lanes. `pstage` is the stage as the kernel prints it, at any float values; over the extended reals it is, on
  every row, the compare-exchange stage of the bitonic network, so the whole fold (`sortBlock`) leaves every row ascending and
  a rearrangement of what it was.
-/
module

public import proofs.«01_k».proof.Proof.Gen.KernelIdeal.Skeleton
public import Idealize.ShloMosaic.Lib.Pointwise
public import Idealize.ShloMosaic.Lib.SortNet.Sorts
public import Idealize.ShloMosaic.Lib.SortNet.Printed

@[expose] public section

noncomputable section

namespace Cert.KernelIdeal.Block

open Idealize.ShloMosaic Idealize.ShloMosaic.SortNet Cert.KernelIdeal Cert.KernelIdeal.Gen

section generic

variable {F : FTy → Type} [FloatOps F]

/-- The mask "bit `s` of the lane's number is clear", as the kernel prints it. -/
def clearBit (s : Nat) : IVec S256x2048 1 :=
  cmpi .eq (andi (iota .tc S256x2048 32 [1] iota_S256x2048_d1_w32) (broadcast S256x2048 (BitVec.ofNat 32 (2 ^ s))))
    (broadcast S256x2048 0#32)

/-- Every lane's partner at distance `2 ^ s`: the rotation left where bit `s` is clear, the rotation right where it is set. -/
def pairOf (s : Nat) (x : FVec F S256x2048 .f32) : FVec F S256x2048 .f32 :=
  select (clearBit s) (dynamicRotate 1 (BitVec.ofNat 32 (2048 - 2 ^ s)) none x rotates_S256x2048_d1)
    (dynamicRotate 1 (BitVec.ofNat 32 (2 ^ s)) none x rotates_S256x2048_d1)

/-- One stage of level `l` at distance `2 ^ s`: the lesser of a pair where bits `l + 1` and `s` agree, else the greater. -/
def pstage (l s : Nat) (x : FVec F S256x2048 .f32) : FVec F S256x2048 .f32 :=
  select (xori (xori (clearBit (l + 1)) (clearBit s)) (constantI S256x2048 1 1#1)) (minimumf x (pairOf s x))
    (maximumf x (pairOf s x))

/-- The stages in the order they run: levels 0 to 10, in each the distances `2 ^ l` down to 1. -/
def schedule : List (Nat × Nat) := (List.range 11).flatMap fun l => (List.range (l + 1)).reverse.map fun s => (l, s)

/-- The whole sort of a block. -/
def sortBlock (x : FVec F S256x2048 .f32) : FVec F S256x2048 .f32 := schedule.foldl (fun x d => pstage d.1 d.2 x) x

end generic

/-- The lanes of row `r`. -/
def lanes (r : Fin 256) : Column S256x2048 1 11 where
  col i := ix2 (n0 := 256) (n1 := 2048) r i
  size_eq := rfl
  coord _ := rfl
  other i i' b hb := by
    match b, hb with
    | ⟨0, _⟩, _ => rfl
    | ⟨1, _⟩, h => exact absurd rfl h

/-- Row `r` of a block. -/
def rowOf {α : Type} (x : S256x2048.Idx → α) (r : Fin 256) (i : Fin (2 ^ 11)) : α := x ((lanes r).col i)

/-- The printed mask at lane `i` says whether bit `s` of `i` is clear. -/
theorem clearBit_apply (s : Nat) (hs : s < 32) (r : Fin 256) (i : Fin (2 ^ 11)) :
    clearBit s ((lanes r).col i) = BitVec.ofBool (decide (i.val &&& 2 ^ s = 0)) := by
  have hi : i.val < 2 ^ 32 := Nat.lt_of_lt_of_le i.isLt (by decide)
  have hd : (BitVec.ofNat 32 (2 ^ s)).toNat = 2 ^ s := by
    rw [BitVec.toNat_ofNat, Nat.mod_eq_of_lt (Nat.pow_lt_pow_right (by decide) hs)]
  show BitVec.ofBool (IntOp.andi (iota .tc S256x2048 32 [1] iota_S256x2048_d1_w32 ((lanes r).col i)) _ == 0#32) = _
  rw [(lanes r).iota_apply]
  congr 1
  rw [Bool.eq_iff_iff, beq_iff_eq, decide_eq_true_eq]
  exact and_distance_eq_zero_iff hi _ hd

/-- The fetched partner at lane `i` is the row's entry at the network's partner of `i`. -/
theorem pairOf_apply (s : Nat) (hs : s < 11) (x : FVec Ideal S256x2048 .f32) (r : Fin 256) (i : Fin (2 ^ 11)) :
    pairOf s x ((lanes r).col i) = rowOf x r (partner 11 s i) := by
  have hlt : 2 ^ s < 2 ^ 11 := Nat.pow_lt_pow_right (by decide) hs
  show Scalar.select (clearBit s ((lanes r).col i)) _ _ = _
  rw [clearBit_apply s (by omega), select_ofBool]
  by_cases hi : i.val &&& 2 ^ s = 0
  · rw [decide_eq_true hi, if_pos rfl]
    refine (lanes r).rotate_of_clear hs _ ?_ x _ i hi
    rw [BitVec.toNat_ofNat, Nat.mod_eq_of_lt (Nat.lt_of_le_of_lt (Nat.sub_le _ _) (by decide))]
    rfl
  · rw [decide_eq_false hi, if_neg (by decide)]
    refine (lanes r).rotate_of_set hs _ ?_ x _ i hi
    rw [BitVec.toNat_ofNat, Nat.mod_eq_of_lt (by omega)]

/-- Bit `l + 1` is the same at a lane and at its partner at a distance `2 ^ s` with `s ≤ l`; bit `s` is not. So the mask
    "take the greater" is negated at the partner. -/
theorem takeGreater_partner {l s : Nat} (hs : s < 11) (hsl : s ≤ l) (j : Fin (2 ^ 11)) :
    (!decide (decide ((partner 11 s j).val &&& 2 ^ (l + 1) = 0) = decide ((partner 11 s j).val &&& 2 ^ s = 0)))
      = !!decide (decide (j.val &&& 2 ^ (l + 1) = 0) = decide (j.val &&& 2 ^ s = 0)) := by
  have h1 : decide ((partner 11 s j).val &&& 2 ^ (l + 1) = 0) = decide (j.val &&& 2 ^ (l + 1) = 0) := by
    simpa using sizeClear_partner hs hsl true j
  have h2 : decide ((partner 11 s j).val &&& 2 ^ s = 0) = !decide (j.val &&& 2 ^ s = 0) := by
    by_cases hj : j.val &&& 2 ^ s = 0
    · have : ¬((partner 11 s j).val &&& 2 ^ s = 0) := by
        rw [partner_and hs j hj]; exact Nat.pos_iff_ne_zero.mp (Nat.two_pow_pos s)
      rw [decide_eq_true hj, decide_eq_false this]; rfl
    · rw [decide_eq_false hj, decide_eq_true (partner_and_of_set hs j hj)]; rfl
  rw [h1, h2]
  generalize decide (j.val &&& 2 ^ (l + 1) = 0) = a
  generalize decide (j.val &&& 2 ^ s = 0) = b
  revert a b
  decide

/-- ONE STAGE ON ONE ROW: the printed stage is the network's stage. -/
theorem pstage_row (l s : Nat) (hl : l < 11) (hsl : s ≤ l) (x : FVec Ideal S256x2048 .f32) (r : Fin 256) :
    rowOf (pstage l s x) r
      = Network.apply (stage 11 s fun i => decide (i.val &&& 2 ^ (l + 1) = 0) == false) (rowOf x r) := by
  have hs : s < 11 := Nat.lt_of_le_of_lt hsl hl
  funext i
  rw [stage_congr (w' := fun i => !decide (decide (i.val &&& 2 ^ (l + 1) = 0) = decide (i.val &&& 2 ^ s = 0)))
    (fun i hi => by rw [decide_eq_true hi]; generalize decide (i.val &&& 2 ^ (l + 1) = 0) = a; revert a; decide)]
  rw [apply_stage_select hs _ (takeGreater_partner hs hsl), ite_lt_eq_max_min]
  show Scalar.select (IntOp.xori (IntOp.xori (clearBit (l + 1) ((lanes r).col i)) (clearBit s ((lanes r).col i))) 1#1)
    (min (x ((lanes r).col i)) (pairOf s x ((lanes r).col i))) (max (x ((lanes r).col i)) (pairOf s x ((lanes r).col i))) = _
  rw [clearBit_apply _ (by omega), clearBit_apply _ (by omega), ofBool_xor_xor_one, select_ofBool, pairOf_apply s hs]
  generalize decide (decide (i.val &&& 2 ^ (l + 1) = 0) = decide (i.val &&& 2 ^ s = 0)) = a
  cases a <;> rfl

/-- Stages of distances run one after another, on one row. -/
theorem distances_row (l : Nat) (hl : l < 11) (S : List Nat) (hS : ∀ s ∈ S, s ≤ l) (x : FVec Ideal S256x2048 .f32)
    (r : Fin 256) :
    rowOf ((S.map fun s => (l, s)).foldl (fun x d => pstage d.1 d.2 x) x) r
      = Network.apply (S.flatMap fun s => stage 11 s fun i => decide (i.val &&& 2 ^ (l + 1) = 0) == false) (rowOf x r) := by
  induction S generalizing x with
  | nil => rfl
  | cons s S ih =>
    rw [List.map_cons, List.foldl_cons, List.flatMap_cons, Network.apply_append, ih (fun t ht => hS t (List.mem_cons_of_mem _ ht)),
      pstage_row l s hl (hS s List.mem_cons_self)]

/-- Levels run one after another, on one row. -/
theorem levels_row (L : List Nat) (hL : ∀ l ∈ L, l < 11) (x : FVec Ideal S256x2048 .f32) (r : Fin 256) :
    rowOf ((L.flatMap fun l => (List.range (l + 1)).reverse.map fun s => (l, s)).foldl (fun x d => pstage d.1 d.2 x) x) r
      = Network.apply (L.flatMap fun l => (List.range (l + 1)).reverse.flatMap fun s =>
          stage 11 s fun i => decide (i.val &&& 2 ^ (l + 1) = 0) == false) (rowOf x r) := by
  induction L generalizing x with
  | nil => rfl
  | cons l L ih =>
    rw [List.flatMap_cons, List.foldl_append, List.flatMap_cons, Network.apply_append,
      ih (fun t ht => hL t (List.mem_cons_of_mem _ ht)),
      distances_row l (hL l List.mem_cons_self) _ (fun s hs => by
        have := List.mem_range.mp (List.mem_reverse.mp hs); omega)]

/-- The block's sort, on one row, is the bitonic network. -/
theorem sortBlock_row (x : FVec Ideal S256x2048 .f32) (r : Fin 256) :
    rowOf (sortBlock x) r = Network.apply (sortNet 11 false) (rowOf x r) :=
  levels_row (List.range 11) (fun _ hl => List.mem_range.mp hl) x r

/-- Every row of the sorted block ascends. -/
theorem sortBlock_monotone (x : FVec Ideal S256x2048 .f32) (r : Fin 256) : Monotone (rowOf (sortBlock x) r) := by
  rw [sortBlock_row]; exact sortNet_apply_monotone 11 _

/-- Every row of the sorted block is a rearrangement of the block's row. -/
theorem sortBlock_perm (x : FVec Ideal S256x2048 .f32) (r : Fin 256) :
    ∃ σ : Equiv.Perm (Fin (2 ^ 11)), rowOf (sortBlock x) r = rowOf x r ∘ σ := by
  rw [sortBlock_row]; exact Network.exists_perm _ _

end Cert.KernelIdeal.Block

end
-- ==== Proof.KernelBlock.lean ====
/-
  What the kernel's body leaves in its one-element output at a grid point: the sum of `|su − sv|` over the two sorted blocks,
  added to zero at the first point and to what the buffer held at the others.
-/
module

public import proofs.«01_k».proof.Proof.BlockSort
public import proofs.«01_k».proof.Proof.Gen.KernelIdeal.Frame

@[expose] public section

set_option maxRecDepth 100000

noncomputable section

namespace Cert.KernelIdeal.Block

open Idealize.ShloMosaic Idealize.SL.Sem Idealize.ShloMosaic.Tactic Cert.KernelIdeal Cert.KernelIdeal.Gen

variable {F : FTy → Type} [FloatOps F]

/-- The sum of `|u − v|` over a block, as the kernel prints it: reduced as one `[1, 256, 2048]` value. -/
def distance (u v : FVec F S256x2048 .f32) : FVec F S1x1 .f32 :=
  broadcast S1x1 (extractAt ![0, 0, 0]
    (shapeCast S1x1x1
      (multiReduction .add [1, 2] S1 (shapeCast S1x256x2048 (absf (subf u v)) shapeCasts_S256x2048_S1x256x2048) 0x00000000#32
        reduces_S1x256x2048_S1 (.inl rfl) rfl)
      shapeCasts_S1_S1x1x1)
    inpos_S1x1x1_p0_0_0)

/-- A whole block read through a staging buffer. -/
abbrev wholeRead (a : Memref sig .tc .vmem S256x2048 .f32) (h : a.IsWhole) (x : Vec F S256x2048 .f32) : FVec F S256x2048 .f32 :=
  View.readAt (Elt F) a.view (Rect.unit ![0, 0] S256x2048.size inb_S256x2048_S256x2048_0_0).toLoadRect (h.unread x)

/-- At the first point the partial the body computes is the distance of the two sorted blocks. -/
theorem partial_A (c : Dev nD) (a1 : Memref sig .tc .vmem S256x2048 .f32) (h1 : a1.IsWhole)
    (a2 : Memref sig .tc .vmem S256x2048 .f32) (h2 : a2.IsWhole) (x y : Vec F S256x2048 .f32) :
    kernelRun0_A.sl.r_113 c a1 h1 a2 h2 x y = distance (sortBlock (wholeRead a1 h1 x)) (sortBlock (wholeRead a2 h2 y)) := by
  sl_kernel_rfl

/-- At the other points it is the same. -/
theorem partial_B (c : Dev nD) (a1 : Memref sig .tc .vmem S256x2048 .f32) (h1 : a1.IsWhole)
    (a2 : Memref sig .tc .vmem S256x2048 .f32) (h2 : a2.IsWhole) (x y : Vec F S256x2048 .f32) :
    kernelRun0_B.sl.r_113 c a1 h1 a2 h2 x y = distance (sortBlock (wholeRead a1 h1 x)) (sortBlock (wholeRead a2 h2 y)) := by
  sl_kernel_rfl

theorem zeros2 : (![0, 0] : Fin 2 → Nat) = fun _ => 0 := funext fun a => by fin_cases a <;> rfl

/-- Reading a whole staging buffer gives the block it holds. -/
theorem wholeRead_eq (a : Memref sig .tc .vmem S256x2048 .f32) (h : a.IsWhole) (x : Vec F S256x2048 .f32) :
    wholeRead a h x = x := by
  unfold wholeRead
  rw [View.readAt_eq_ld, h.read_unread, View.ld_unit_zero (S := S256x2048) zeros2]

/-- AT A LATER POINT the body leaves what the output held plus the distance of the two sorted blocks. -/
theorem out_B (c : Dev nD) (i : grid0.Coords) (a1 : Memref sig .tc .vmem S256x2048 .f32) (h1 : a1.IsWhole)
    (a2 : Memref sig .tc .vmem S256x2048 .f32) (h2 : a2.IsWhole) (a3 : Memref sig .tc .vmem S1x1 .f32) (h3 : a3.IsWhole)
    (hc : ¬cond0_0 i) (x y : Vec F S256x2048 .f32) (z : Vec F S1x1 .f32) :
    out0_B_2 c i a1 h1 a2 h2 a3 h3 hc x y z = addf z (distance (sortBlock x) (sortBlock y)) := by
  unfold out0_B_2
  rw [View.read_writes_eq_canon _ _ _ (cover0_B_2 c i a1 h1 a2 h2 a3 h3 hc x y z)]
  unfold kernelRun0_B
  dsimp only
  rw [View.canon_unit_zero zeros2, partial_B, wholeRead_eq, wholeRead_eq]
  unfold k0_pay1
  simp only [View.readAt_eq_ld, h3.read_unread, View.ld_unit_zero (S := S1x1) zeros2, shapeCast_self]

/-- AT THE FIRST POINT it leaves zero plus that distance. -/
theorem out_A (c : Dev nD) (i : grid0.Coords) (a1 : Memref sig .tc .vmem S256x2048 .f32) (h1 : a1.IsWhole)
    (a2 : Memref sig .tc .vmem S256x2048 .f32) (h2 : a2.IsWhole) (a3 : Memref sig .tc .vmem S1x1 .f32) (h3 : a3.IsWhole)
    (hc : cond0_0 i) (x y : Vec F S256x2048 .f32) :
    out0_A_2 c i a1 h1 a2 h2 a3 h3 hc x y
      = addf (broadcast S1x1 (Scalar.ofBits .f32 0x00000000#32)) (distance (sortBlock x) (sortBlock y)) := by
  unfold out0_A_2
  rw [View.read_writes_eq_canon _ _ _ (cover0_A_2 c i a1 h1 a2 h2 a3 h3 hc x y)]
  unfold kernelRun0_A
  dsimp only
  rw [View.canon_cons_unit_zero (S := S1x1) zeros2, partial_A, wholeRead_eq, wholeRead_eq]
  unfold kernelRun0_A.sl.v2125 kernelRun0_A.sl.H2_1
  rw [View.readCov_unit_zero (S := S1x1) _ zeros2]
  unfold k0_pay1 k0_pay181
  simp only [shapeCast_self]

end Cert.KernelIdeal.Block

end
-- ==== Proof.KernelArray.lean ====
/-
  What the kernel's program ends with: the one-element array accumulated over the sixteen points of the grid, and the quotient
  the host forms of it.
-/
module

public import proofs.«01_k».proof.Proof.KernelBlock
public import Idealize.ShloMosaic.Lib.Pipeline.Value
public import Idealize.ShloMosaic.Lib.StableHlo.Run
public import Idealize.ShloMosaic.Lib.Tactic

@[expose] public section

noncomputable section

namespace Cert.KernelIdeal.Block

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg)

/-- What point `t` adds: the distance of its two sorted blocks. -/
def added (c : Dev nD) (t : Fin cfg0.N) : FVec F S1x1 .f32 := distance (sortBlock (iblk m c 0 t)) (sortBlock (iblk m c 1 t))

/-- The running total after point `n`: zero plus what the points up to `n` add, in order. -/
def total (c : Dev nD) : (n : ℕ) → n < cfg0.N → FVec F S1x1 .f32
  | 0, h => addf (broadcast S1x1 (Scalar.ofBits .f32 0x00000000#32)) (added m c ⟨0, h⟩)
  | n + 1, h => addf (total c n (Nat.lt_of_succ_lt h)) (added m c ⟨n + 1, h⟩)

/-- The output's buffer after point `n` holds the running total. -/
theorem outsAt_eq (c : Dev nD) : ∀ (n : ℕ) (h : n < cfg0.N), outsAt0 m c n h = total m c n h
  | 0, h => (outsAt0_A m c ⟨0, h⟩ rfl).trans (out_A ..)
  | n + 1, h => by
    have hN : cfg0.N = 16 := N_0
    have hB : ¬(⟨n + 1, h⟩ : Fin cfg0.N).val % 16 = 0 := by dsimp only; omega
    rw [outsAt0_B m c ⟨n + 1, h⟩ hB, out_B]
    show addf (outsAt0 m c n _) _ = addf (total m c n _) _
    rw [outsAt_eq c n]
    rfl

/-- The total after the last point, as contents of the one-element array. -/
abbrev grandTotal (c : Dev nD) : Buf (Elt F) ((c : Thread nD τ).loc main_call0_v0) :=
  total m c 15 (by rw [show cfg0.N = 16 from N_0]; decide)

/-- The only write-back, after the last point, writes the total. -/
theorem flushed_eq (c : Dev nD) (t : Fin cfg0.N) (hf : (cfg0.win 2).flush t = true) :
    (dats m 0 c).flushed 2 t = ((cfg0.win 2).blk t).view.read (Elt F) (grandTotal m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after0_2, outsAt_eq]
  have hz' : (fun a => win0_2.index t0_15 a * main_call0_v0.ty.shape.size a) = fun _ => 0 := funext fun a => by fin_cases a <;> decide
  exact (Memref.read_access_unit_zero (Elt F) main_call0_v0 hz' (fun a => by rw [congrFun hz' a]; simp) (grandTotal m c)).symm

/-- So the one-element array ends holding the total. -/
theorem final_total (c : Dev nD) : (dats m 0 c).arrAt 2 cfg0.N = grandTotal m c :=
  (dats m 0 c).arrAt_eq_of_cover 2 (grandTotal m c) (flushed_eq m c) fun i =>
    ⟨t0_15, (flush0_2 t0_15).mpr rfl, by
      show i ∈ ((View.whole main_call0_v0).slice (win0_2.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 1 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 1 from by decide +kernel]; omega⟩

/-- What the program returns: the total over `2 ^ 23`. -/
def mean (c : Dev nD) : FVec F S_ .f32 :=
  Host.divf (shapeCast S_ (grandTotal m c) shapeCasts_S1x1_S_) (constant S_ .f32 0x4B000000#32)

/-- The host operations after the region leave the quotient in the result. -/
theorem tail_eq (c : Dev nD) : Pipeline.afterTail₀ cfgs (dats m) 0 (V0 m) [hostOps1] c main_v0 = mean m c := by
  unfold Pipeline.afterTail₀ mean
  rw [← final_total]
  have h := Pipeline.withArrays_arr (cfgs 0).spec launch0.win.arr_inj c (V0 m c) (fun w => (dats m 0 c).arrAt w (cfgs 0).N) 2
  simp only [List.flatten_cons, List.flatten_nil, List.append_nil]
  rw [← h]
  after_results
  rfl

/-- The run, read: the result holds the quotient, the arguments are unchanged. -/
theorem run : θ_run defs (onTc (τ := τ) (main (F := F))) ⟨m, fun _ => 0, ρ⟩ fun r => ∀ c : Dev nD,
      r.2.mem ((c : Thread nD τ).loc main_v0) = mean m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v0 (Pipeline.mem_restRefs_of main_v0 (by decide) (by decide))).trans (tail_eq m c),
      ((h c).1 0).trans ((dats m 0 c).arrAt_in 0 rfl _), ((h c).1 1).trans ((dats m 0 c).arrAt_in 1 rfl _)⟩)
    (run_main m ρ)

/-- Point `t`'s block of the first argument is its rows `256 t` to `256 t + 255`. -/
theorem block0_apply (c : Dev nD) (t : Fin cfg0.N) (r : Fin 256) (l : Fin 2048) (h : 256 * t.val + r.val < 4096) :
    (iblk m c 0 t : FVec F S256x2048 .f32) (ix2 r l) = m ((c : Thread nD τ).loc main_arg0) (ix2 ⟨256 * t.val + r.val, h⟩ l) := by
  have hi : win0_0.index t 0 = t.val ∧ win0_0.index t 1 = 0 := by
    rcases fin_N0 t with rfl | rfl | rfl | rfl | rfl | rfl | rfl | rfl | rfl | rfl | rfl | rfl | rfl | rfl | rfl | rfl <;> decide
  unfold iblk
  rw [View.read_apply]
  show V m c main_arg0 _ = m (c.tc.loc main_arg0) _
  unfold V
  congr 1
  funext a
  apply Fin.ext
  match a with
  | ⟨0, _⟩ => show win0_0.index t 0 * 256 + 1 * r.val = 256 * t.val + r.val; rw [hi.1]; omega
  | ⟨1, _⟩ => show win0_0.index t 1 * 2048 + 1 * l.val = l.val; rw [hi.2]; omega

/-- Point `t`'s block of the second argument is its rows `256 t` to `256 t + 255`. -/
theorem block1_apply (c : Dev nD) (t : Fin cfg0.N) (r : Fin 256) (l : Fin 2048) (h : 256 * t.val + r.val < 4096) :
    (iblk m c 1 t : FVec F S256x2048 .f32) (ix2 r l) = m ((c : Thread nD τ).loc main_arg1) (ix2 ⟨256 * t.val + r.val, h⟩ l) := by
  have hi : win0_1.index t 0 = t.val ∧ win0_1.index t 1 = 0 := by
    rcases fin_N0 t with rfl | rfl | rfl | rfl | rfl | rfl | rfl | rfl | rfl | rfl | rfl | rfl | rfl | rfl | rfl | rfl <;> decide
  unfold iblk
  rw [View.read_apply]
  show V m c main_arg1 _ = m (c.tc.loc main_arg1) _
  unfold V
  congr 1
  funext a
  apply Fin.ext
  match a with
  | ⟨0, _⟩ => show win0_1.index t 0 * 256 + 1 * r.val = 256 * t.val + r.val; rw [hi.1]; omega
  | ⟨1, _⟩ => show win0_1.index t 1 * 2048 + 1 * l.val = l.val; rw [hi.2]; omega

end Cert.KernelIdeal.Block

end
-- ==== Proof.Rows.lean ====
/-
  The mathematics both programs share: a row of 2048 extended reals put in ascending order, and the distance of two rows — the
  sum over positions of the absolute difference of their ordered entries.
-/
module

public import Idealize.ShloMosaic.Lib.SortNet.Sorts
public import Mathlib.Data.EReal.Operations
public import Mathlib.Data.List.FinRange

@[expose] public section

noncomputable section

namespace Cert.Rows

open Idealize.ShloMosaic.SortNet

/-- A row in ascending order. -/
def ascending (w : Fin 2048 → EReal) : Fin 2048 → EReal := Network.apply (sortNet 11 false) w

/-- It ascends. -/
theorem ascending_monotone (w : Fin 2048 → EReal) : Monotone (ascending w) := sortNet_apply_monotone 11 w

/-- It rearranges the row. -/
theorem ascending_perm (w : Fin 2048 → EReal) : ∃ σ : Equiv.Perm (Fin 2048), ascending w = w ∘ σ :=
  Network.exists_perm (sortNet 11 false) w

/-- Two ascending rearrangements of one family are equal. -/
theorem ascending_unique {n : ℕ} {α : Type} [LinearOrder α] (w : Fin n → α) (σ τ : Equiv.Perm (Fin n))
    (hσ : Monotone (w ∘ σ)) (hτ : Monotone (w ∘ τ)) : w ∘ σ = w ∘ τ := by
  have hp : (List.ofFn (w ∘ σ)).Perm (List.ofFn (w ∘ τ)) := (σ.ofFn_comp_perm w).trans (τ.ofFn_comp_perm w).symm
  exact List.ofFn_injective (List.Perm.eq_of_pairwise (le := fun a b => a ≤ b) (fun _ _ _ _ hab hba => le_antisymm hab hba)
    (List.pairwise_ofFn.mpr fun _ _ hij => hσ (le_of_lt hij)) (List.pairwise_ofFn.mpr fun _ _ hij => hτ (le_of_lt hij)) hp)

/-- Any ascending rearrangement of a row is `ascending` of it. -/
theorem eq_ascending (w : Fin 2048 → EReal) (σ : Equiv.Perm (Fin 2048)) (h : Monotone (w ∘ σ)) : w ∘ σ = ascending w := by
  obtain ⟨τ, hτ⟩ := ascending_perm w
  rw [hτ]
  exact ascending_unique w σ τ h (hτ ▸ ascending_monotone w)

/-- The absolute difference of two extended reals. -/
def gap (a b : EReal) : EReal := max (a - b) (-(a - b))

/-- The distance of two rows: the gaps of their ordered entries, summed. -/
def rowDistance (u v : Fin 2048 → EReal) : EReal := ∑ l : Fin 2048, gap (ascending u l) (ascending v l)

end Cert.Rows

end
-- ==== Proof.KernelMean.lean ====
/-
  The kernel's result over the extended reals: the sum over the 4096 rows of the two arguments' row distances, times `1 / 2 ^ 23`.
-/
module

public import proofs.«01_k».proof.Proof.KernelArray
public import proofs.«01_k».proof.Proof.Rows

@[expose] public section

noncomputable section

namespace Cert.KernelIdeal.Block

open Idealize.ShloMosaic Idealize.ShloMosaic.TcCoe Idealize.SL.Sem Cert.KernelIdeal Cert.KernelIdeal.Gen Cert.Rows

/-- The printed distance of two blocks is the sum of the gaps of their entries. -/
theorem distance_apply (u v : FVec Ideal S256x2048 .f32) (j : S1x1.Idx) :
    distance u v j = ∑ r : Fin 256, ∑ l : Fin 2048, gap (u (ix2 r l)) (v (ix2 r l)) := by
  unfold distance
  pointwise
  rfl

/-- The sorted block at row `r` is the block's row in ascending order. -/
theorem sortBlock_apply (x : FVec Ideal S256x2048 .f32) (r : Fin 256) (l : Fin 2048) :
    sortBlock x (ix2 r l) = ascending (fun l => x (ix2 r l)) l :=
  congrFun (sortBlock_row x r) l

/-- Row `R` of one of the arguments. -/
def argRow (x : S4096x2048.Idx → EReal) (R : Fin 4096) (l : Fin 2048) : EReal := x (ix2 R l)

/-- The distance of the two arguments' rows numbered `k` (zero past the last row). -/
def costAt (x y : S4096x2048.Idx → EReal) (k : ℕ) : EReal :=
  if h : k < 4096 then rowDistance (argRow x ⟨k, h⟩) (argRow y ⟨k, h⟩) else 0

variable (m : (ℓ : Loc nD τ sig) → Buf (Elt Ideal) ℓ)

/-- The arguments as arrays of extended reals. -/
abbrev arg0 (c : Dev nD) : S4096x2048.Idx → EReal := m ((c : Thread nD τ).loc main_arg0)
abbrev arg1 (c : Dev nD) : S4096x2048.Idx → EReal := m ((c : Thread nD τ).loc main_arg1)

/-- Point `t` adds the distances of its 256 rows. -/
theorem added_apply (c : Dev nD) (t : Fin cfg0.N) (j : S1x1.Idx) :
    added m c t j = ∑ r ∈ Finset.range 256, costAt (arg0 m c) (arg1 m c) (256 * t.val + r) := by
  have ht : t.val < 16 := lt_of_lt_of_eq t.isLt (show cfg0.N = 16 from N_0)
  unfold added
  rw [distance_apply, Finset.sum_range]
  refine Finset.sum_congr rfl fun r _ => ?_
  have hR : 256 * t.val + r.val < 4096 := by have := r.isLt; omega
  unfold costAt rowDistance
  rw [dif_pos hR]
  refine Finset.sum_congr rfl fun l _ => ?_
  rw [sortBlock_apply, sortBlock_apply]
  congr 3
  · funext k; exact block0_apply m c t r k hR
  · funext k; exact block1_apply m c t r k hR

/-- The running total after point `n` is the sum over the first `256 (n + 1)` rows. -/
theorem total_apply (c : Dev nD) (j : S1x1.Idx) : ∀ (n : ℕ) (h : n < cfg0.N),
    total m c n h j = ∑ k ∈ Finset.range (256 * (n + 1)), costAt (arg0 m c) (arg1 m c) k
  | 0, h => by
    show FloatOps.ofBits .f32 0x00000000#32 + added m c ⟨0, h⟩ j = _
    rw [added_apply]
    simp [Ideal.ofBits, Ideal.ieee]
  | n + 1, h => by
    show total m c n _ j + added m c ⟨n + 1, h⟩ j = _
    rw [total_apply c j n, added_apply, show 256 * (n + 1 + 1) = 256 * (n + 1) + 256 by ring, Finset.sum_range_add]

/-- THE KERNEL'S RESULT: the sum of all row distances times `1 / 2 ^ 23`. -/
theorem mean_apply (c : Dev nD) (j : S_.Idx) :
    mean m c j = (∑ R : Fin 4096, rowDistance (argRow (arg0 m c) R) (argRow (arg1 m c) R)) * ((1 / 8388608 : ℝ) : EReal) := by
  have hlit : FloatOps.ofBits (F := Ideal) .f32 0x4B000000#32 = ((8388608 : ℝ) : EReal) := by
    simp [Ideal.ofBits, Ideal.ieee, -EReal.coe_mul]
  have hsum : ∀ i : S1x1.Idx, grandTotal m c i
      = ∑ R : Fin 4096, rowDistance (argRow (arg0 m c) R) (argRow (arg1 m c) R) := by
    intro i
    show total m c 15 _ i = _
    rw [total_apply, Finset.sum_range]
    exact Finset.sum_congr rfl fun R _ => dif_pos R.isLt
  show Ideal.div (grandTotal m c _) (FloatOps.ofBits (F := Ideal) .f32 0x4B000000#32) = _
  rw [hlit, Ideal.div_coe (by norm_num)]
  rw [hsum]

end Cert.KernelIdeal.Block

end
-- ==== Proof.RefSort.lean ====
/-
  The reference's two sorts over the extended reals. Both comparators are "less than", so each orders every row ascending: the sort
  that carries positions yields, along a row, a permutation that puts the row in ascending order, and the plain sort yields an
  ascending rearrangement.
-/
module

public import proofs.«01_k».proof.Proof.Gen.ReferenceIdeal.Read
public import proofs.«01_k».proof.Proof.Rows
public import Idealize.ShloMosaic.Lib.SortFacts
public import Idealize.ShloMosaic.Lib.Pointwise

@[expose] public section

noncomputable section

namespace Cert.ReferenceIdeal.Value

open Idealize.ShloMosaic Cert.ReferenceIdeal Cert.ReferenceIdeal.Gen Cert.Rows

/-- The printed comparator of values says "before" exactly where the one is less than the other: over the extended reals the zero
    it puts for a zero is that zero, and no value is unequal to itself. -/
theorem comparator_value (l r : EReal) : comparator_f32_d1 (F := Ideal) l r = BitVec.ofBool (decide (l < r)) := by
  have hz : FloatOps.ofBits (F := Ideal) .f32 0x00000000#32 = (0 : EReal) := by simp [FloatOps.ofBits, Ideal.ofBits, Ideal.ieee]
  have hc : ∀ v : EReal, Scalar.select (FloatOps.cmpf (F := Ideal) (φ := .f32) .une v v) (FloatOps.ofBits (F := Ideal) .f32 0x7FC00000#32)
      (Scalar.select (FloatOps.cmpf (F := Ideal) (φ := .f32) .oeq v (FloatOps.ofBits (F := Ideal) .f32 0x00000000#32))
        (FloatOps.ofBits (F := Ideal) .f32 0x00000000#32) v) = v := by
    intro v
    rw [hz]
    by_cases h : v = 0 <;> simp [FloatOps.cmpf, Ideal.cmp, Scalar.select, h]
  show FloatOps.cmpfTotal (F := Ideal) (φ := .f32) .lt (Scalar.select _ _ _) (Scalar.select _ _ _) = _
  rw [hc l, hc r]
  rfl

/-- The comparator that carries a position compares the values alone. -/
theorem comparator_pair (l r : EReal × BitVec 32) :
    comparator_f32_i32_d1 (F := Ideal) l r = BitVec.ofBool (decide (l.1 < r.1)) := comparator_value l.1 r.1

/-- The order in which a stable sort by "less than" takes the entries of a family. -/
def order {n : ℕ} (w : Fin n → EReal) : Fin n → Fin n := sortedFrom fun k k' => decide (w k < w k')

/-- It takes every entry once. -/
def orderPerm {n : ℕ} (w : Fin n → EReal) : Equiv.Perm (Fin n) :=
  Equiv.ofBijective (order w) ⟨sortedFrom_injective _, sortedFrom_surjective _⟩

/-- As a function it is the order itself. -/
theorem orderPerm_apply {n : ℕ} (w : Fin n → EReal) (k : Fin n) : orderPerm w k = sortedFrom (fun k k' => decide (w k < w k')) k := rfl

/-- The entries so taken ascend. -/
theorem order_monotone {n : ℕ} (w : Fin n → EReal) : Monotone (w ∘ orderPerm w) := by
  intro i j hij
  rcases hij.lt_or_eq with h | rfl
  · have := sortedFrom_noInversion (fun k k' => decide (w k < w k')) (fun k k' => decide (w k < w k'))
      (fun a b hab => by simp only [decide_eq_true_eq, decide_eq_false_iff_not] at *; exact not_lt.2 hab.le)
      (fun _ _ h => h)
      (fun a b c hab hbc => by
        simp only [decide_eq_false_iff_not, not_lt] at *
        exact hbc.trans hab) i j h
    exact not_lt.1 (of_decide_eq_false this)
  · exact le_rfl

/-- The plain sort of an array of rows is, along a row, the row taken in that order. -/
theorem sort_row (x : S4096x4096.Idx → EReal) (R : Fin 4096) (k : Fin 4096) :
    Host.sort S4096x4096 1 (comparator_f32_d1 (F := Ideal)) x (ix2 R k) = x (ix2 R (orderPerm (fun k => x (ix2 R k)) k)) := by
  have ha : ∀ l : Fin 4096, Shape.Idx.along (s := S4096x4096) (ix2 R k) 1 l = ix2 R l := fun l => by
    funext a
    match a with
    | ⟨0, _⟩ => rfl
    | ⟨1, _⟩ => rfl
  have hb : (fun l l' : Fin 4096 => comparator_f32_d1 (F := Ideal) (x (ix2 R l)) (x (ix2 R l')) == 1#1)
      = fun l l' => decide (x (ix2 R l) < x (ix2 R l')) := by
    funext l l'
    rw [comparator_value]
    cases decide (x (ix2 R l) < x (ix2 R l')) <;> rfl
  show x (Shape.Idx.along (s := S4096x4096) (ix2 R k) 1 (sortedFrom (fun l l' : Fin 4096 =>
    comparator_f32_d1 (F := Ideal) (x (Shape.Idx.along (s := S4096x4096) (ix2 R k) 1 l)) (x (Shape.Idx.along (s := S4096x4096) (ix2 R k) 1 l'))
      == 1#1) k)) = _
  simp only [ha]
  rw [hb, orderPerm_apply]
  exact congrArg x (ha _)

/-- The sort that carries positions leaves, along a row, the position each entry was taken from. -/
theorem argsort_row (x : S4096x2048.Idx → EReal) (R : Fin 4096) (l : Fin 2048) :
    (Host.sort2 S4096x2048 1 (comparator_f32_i32_d1 (F := Ideal)) x (iotaInDim S4096x2048 32 1)).2 (ix2 R l)
      = BitVec.ofNat 32 (orderPerm (fun l => x (ix2 R l)) l).val := by
  have ha : ∀ l' : Fin 2048, Shape.Idx.along (s := S4096x2048) (ix2 R l) 1 l' = ix2 R l' := fun l' => by
    funext a
    match a with
    | ⟨0, _⟩ => rfl
    | ⟨1, _⟩ => rfl
  have hb : (fun l l' : Fin 2048 => comparator_f32_i32_d1 (F := Ideal) (x (ix2 R l), iotaInDim S4096x2048 32 1 (ix2 R l))
      (x (ix2 R l'), iotaInDim S4096x2048 32 1 (ix2 R l')) == 1#1) = fun l l' => decide (x (ix2 R l) < x (ix2 R l')) := by
    funext l l'
    rw [comparator_pair]
    cases decide (x (ix2 R l) < x (ix2 R l')) <;> rfl
  show iotaInDim S4096x2048 32 1 (Shape.Idx.along (s := S4096x2048) (ix2 R l) 1 (sortedFrom (fun k k' : Fin 2048 =>
    comparator_f32_i32_d1 (F := Ideal)
      (x (Shape.Idx.along (s := S4096x2048) (ix2 R l) 1 k), iotaInDim S4096x2048 32 1 (Shape.Idx.along (s := S4096x2048) (ix2 R l) 1 k))
      (x (Shape.Idx.along (s := S4096x2048) (ix2 R l) 1 k'), iotaInDim S4096x2048 32 1 (Shape.Idx.along (s := S4096x2048) (ix2 R l) 1 k'))
      == 1#1) l)) = _
  simp only [ha]
  rw [hb, orderPerm_apply]
  exact (congrArg (iotaInDim S4096x2048 32 1) (ha _)).trans rfl

end Cert.ReferenceIdeal.Value

end
-- ==== Proof.RefTake.lean ====
/-
  The reference's `take_along_axis`: entries of each row of an array taken at the positions a second array names. Where every position
  is a number below the row's length, nothing is wrapped, clamped or filled, and the entry read is the one at that position.
-/
module

public import proofs.«01_k».proof.Proof.Gen.ReferenceIdeal.Read
public import Idealize.ShloMosaic.Lib.StableHlo.Predicate
public import Idealize.ShloMosaic.Lib.Pipeline.Value
public import Idealize.ShloMosaic.Lib.Pointwise

@[expose] public section

noncomputable section

namespace Cert.ReferenceIdeal.Value

open Idealize.ShloMosaic Cert.ReferenceIdeal Cert.ReferenceIdeal.Gen

/-- An array of 4096 rows of `n`, and the same with a trailing axis of one. -/
abbrev Wide (n : ℕ) : Shape := ⟨2, ![4096, n]⟩
abbrev WideCol (n : ℕ) : Shape := ⟨3, ![4096, n, 1]⟩

/-- What the shapes of one `take_along_axis` must satisfy. -/
structure TakeFacts (n : ℕ) : Prop where
  cast : (Wide n).ShapeCasts (WideCol n)
  scalarWide : S_.BroadcastsInDim (Wide n) (![] : Fin 0 → Fin (Wide n).rank)
  scalarCol : S_.BroadcastsInDim (WideCol n) (![] : Fin 0 → Fin (WideCol n).rank)
  lift : S1.BroadcastsInDim S1x1x1 (![2] : Fin 1 → Fin S1x1x1.rank)
  spread : S1x1x1.BroadcastsInDim (WideCol n) (![0, 1, 2] : Fin 3 → Fin (WideCol n).rank)
  drops : (WideCol n).ReducesTo [2] (Wide n)
  gathers : GatherDims.WF S4096x2048 (WideCol n) (Wide n) [] [1] [0] [1] [0] 2 ![1, 1]

/-- The dimension numbers of its gather: along each row, one position per result entry. -/
def takeDims {n : ℕ} (h : TakeFacts n) : GatherDims S4096x2048 (WideCol n) (Wide n) where
  offsetDims := []
  collapsedSliceDims := [1]
  operandBatchingDims := [0]
  startIndicesBatchingDims := [0]
  startIndexMap := [1]
  indexVectorDim := 2
  sliceSizes := ![1, 1]
  wf := h.gathers

variable {n : ℕ} (h : TakeFacts n)

/-- The positions as the gather reads them: a negative one counted from the row's end, with a trailing axis of one. -/
def wrapped (idx : IVec (Wide n) 32) : IVec (WideCol n) 32 :=
  shapeCast (WideCol n) (select (cmpi .slt idx (broadcastInDim (Wide n) ![] h.scalarWide (constantI S_ 32 0#32)))
    (addi idx (broadcastInDim (Wide n) ![] h.scalarWide (constantI S_ 32 2048#32))) idx) h.cast

/-- Whether a position lies within the row. -/
def within (idx : IVec (Wide n) 32) : IVec (WideCol n) 1 :=
  andi (cmpi .sge (wrapped h idx) (broadcastInDim (WideCol n) ![] h.scalarCol (constantI S_ 32 0#32)))
    (cmpi .sle (wrapped h idx) (broadcastInDim (WideCol n) ![0, 1, 2] h.spread
      (broadcastInDim S1x1x1 ![2] h.lift (constantI S1 32 2047#32))))

/-- The whole `take_along_axis`: the gathered entries, filled where a position lies outside the row. -/
def takeAlong (x : S4096x2048.Idx → EReal) (idx : IVec (Wide n) 32) : (Wide n).Idx → EReal :=
  select (Host.reduce IntOp.andi (within h idx) (constantI S_ 1 1#1) h.drops h_S_)
    (Host.gather (takeDims h) x (wrapped h idx))
    (broadcastInDim (Wide n) ![] h.scalarWide (constant (F := Ideal) S_ .f32 0x7FC00000#32))

/-- The `and` of ones is one. -/
theorem reduce_andi_ones {s t : Shape} {axes : List (Fin s.rank)} (x : s.Idx → BitVec 1) (hr : s.ReducesTo axes t)
    (hx : ∀ i, x i = 1#1) (j : t.Idx) : Host.reduce IntOp.andi x (constantI S_ 1 1#1) hr h_S_ j = 1#1 := by
  have key : ∀ l : List (Fin s.numel), l.foldl (fun r k => IntOp.andi r (x (s.rowMajor.symm k))) 1#1 = 1#1 := by
    intro l
    induction l with
    | nil => rfl
    | cons a l ih =>
      rw [List.foldl_cons, hx]
      exact ih
  exact key _

/-- The gather reads, at `(R, l)`, row `R` at the position the start indices hold there, read signed and clamped into the row. -/
theorem gather_row (x : S4096x2048.Idx → EReal) (idx : IVec (WideCol n) 32) (R : Fin 4096) (l : Fin n) :
    Host.gather (takeDims h) x idx (ix2 R l) = x (ix2 R ⟨min (idx (ix3 R l 0)).toInt.toNat 2047, by omega⟩) := by
  unfold Host.gather
  congr 1
  funext a
  refine Fin.ext ?_
  show (takeDims h).start (ix2 R l) idx a + (takeDims h).batchCoord (ix2 R l) a + (takeDims h).offCoord (ix2 R l) a = _
  have h01 : a = 0 ∨ a = 1 := by
    match a with
    | ⟨0, _⟩ => exact Or.inl rfl
    | ⟨1, _⟩ => exact Or.inr rfl
  rcases h01 with rfl | rfl
  · have hb : (0 : Fin 2) ∈ (takeDims h).operandBatchingDims := List.mem_singleton.mpr rfl
    rw [GatherDims.start_batching _ _ _ _ hb,
      GatherDims.offCoord_eq_zero _ _ _ (fun hk => ((GatherDims.mem_sKept _ _).mp hk).2 hb), Nat.zero_add, Nat.add_zero]
    unfold GatherDims.batchCoord
    rw [dif_pos hb]
    rfl
  · have hm : (1 : Fin 2) ∈ (takeDims h).startIndexMap := List.mem_singleton.mpr rfl
    have hc : (1 : Fin 2) ∈ (takeDims h).collapsedSliceDims := List.mem_singleton.mpr rfl
    rw [GatherDims.batchCoord_eq_zero _ _ _ (fun hb => absurd (List.mem_singleton.mp hb) (by decide)),
      GatherDims.offCoord_eq_zero _ _ _ (fun hk => ((GatherDims.mem_sKept _ _).mp hk).1 hc)]
    simp only [Nat.add_zero]
    unfold GatherDims.start
    rw [dif_pos hm]
    have hsi : (takeDims h).siIdx (ix2 R l) ⟨List.idxOf (1 : Fin 2) (takeDims h).startIndexMap, List.idxOf_lt_length_iff.2 hm⟩
        = ix3 R l 0 := by
      funext b
      refine Fin.ext ?_
      match b with
      | ⟨0, _⟩ => rfl
      | ⟨1, _⟩ => rfl
      | ⟨2, _⟩ => rfl
    rw [hsi]
    rfl

/-- A number below 2048, as a word: not negative, within the row, and itself when read back. -/
theorem word_facts (p : Fin 2048) : IntOp.cmpi .slt (BitVec.ofNat 32 p.val) 0#32 = 0#1 ∧ IntOp.cmpi .sge (BitVec.ofNat 32 p.val) 0#32 = 1#1
    ∧ IntOp.cmpi .sle (BitVec.ofNat 32 p.val) 2047#32 = 1#1 ∧ (BitVec.ofNat 32 p.val).toInt.toNat = p.val := by
  have hp := p.isLt
  have ht : (BitVec.ofNat 32 p.val).toNat = p.val := by rw [BitVec.toNat_ofNat]; omega
  have hi : (BitVec.ofNat 32 p.val).toInt = p.val := by
    rw [StableHlo.Predicate.toInt_eq_toNat_of_lt (by omega), ht]
  have h0 : (0#32).toInt = 0 := rfl
  have h1 : (2047#32).toInt = 2047 := rfl
  refine ⟨?_, ?_, ?_, by rw [hi]; rfl⟩
  · show BitVec.ofBool (decide ((BitVec.ofNat 32 p.val).toInt < (0#32).toInt)) = 0#1
    rw [hi, h0, decide_eq_false (by omega)]
    rfl
  · show BitVec.ofBool (decide ((0#32).toInt ≤ (BitVec.ofNat 32 p.val).toInt)) = 1#1
    rw [hi, h0, decide_eq_true (by omega)]
    rfl
  · show BitVec.ofBool (decide ((BitVec.ofNat 32 p.val).toInt ≤ (2047#32).toInt)) = 1#1
    rw [hi, h1, decide_eq_true (by omega)]
    rfl

variable (idx : IVec (Wide n) 32) (p : (Wide n).Idx → Fin 2048) (hp : ∀ j, idx j = BitVec.ofNat 32 (p j).val)

include hp in
/-- Positions below 2048 are not wrapped. -/
theorem wrapped_apply (R : Fin 4096) (l : Fin n) (z : Fin 1) : wrapped h idx (ix3 R l z) = BitVec.ofNat 32 (p (ix2 R l)).val := by
  unfold wrapped
  rw [shapeCast_apply _ h.cast (ix3 R l z) (ix2 R l) (by
    rw [Shape.rowMajor_val_two, Shape.rowMajor_val_three]
    have := z.isLt
    show R.val * n + l.val = (R.val * n + l.val) * 1 + z.val
    omega)]
  show Scalar.select (IntOp.cmpi .slt (idx (ix2 R l)) 0#32) _ (idx (ix2 R l)) = _
  rw [hp, (word_facts _).1]
  rfl

include hp in
/-- They all lie within the row. -/
theorem within_apply (i : (WideCol n).Idx) : within h idx i = 1#1 := by
  obtain ⟨R, l, z, rfl⟩ : ∃ R l z, i = ix3 R l z := ⟨_, _, _, eq_ix3 i⟩
  show IntOp.andi (IntOp.cmpi .sge (wrapped h idx (ix3 R l z)) 0#32) (IntOp.cmpi .sle (wrapped h idx (ix3 R l z)) 2047#32) = _
  rw [wrapped_apply h idx p hp, (word_facts _).2.1, (word_facts _).2.2.1]
  rfl

include hp in
/-- So `take_along_axis` reads each row at those positions. -/
theorem takeAlong_apply (x : S4096x2048.Idx → EReal) (R : Fin 4096) (l : Fin n) :
    takeAlong h x idx (ix2 R l) = x (ix2 R (p (ix2 R l))) := by
  show Scalar.select (Host.reduce IntOp.andi (within h idx) (constantI S_ 1 1#1) h.drops h_S_ (ix2 R l))
    (Host.gather (takeDims h) x (wrapped h idx) (ix2 R l)) _ = _
  rw [reduce_andi_ones _ _ (within_apply h idx p hp), gather_row]
  refine congrArg (fun q => x (ix2 R q)) (Fin.ext ?_)
  show min (wrapped h idx (ix3 R l 0)).toInt.toNat 2047 = _
  rw [wrapped_apply h idx p hp, (word_facts _).2.2.2]
  have := (p (ix2 R l)).isLt
  omega

/-- The shapes of the takes along a row of 2048, and along a row of 4096. -/
theorem takeFacts2048 : TakeFacts 2048 :=
  ⟨shapeCasts_S4096x2048_S4096x2048x1, bcast_S_S4096x2048, bcast_S_S4096x2048x1, bcast_S1_S1x1x1_2,
    bcast_S1x1x1_S4096x2048x1_0_1_2, reducesTo_S4096x2048x1_S4096x2048_d2, gather_S4096x2048_S4096x2048x1_S4096x2048_n_1_0_0_1_2_11_wf⟩
theorem takeFacts4096 : TakeFacts 4096 :=
  ⟨shapeCasts_S4096x4096_S4096x4096x1, bcast_S_S4096x4096, bcast_S_S4096x4096x1, bcast_S1_S1x1x1_2,
    bcast_S1x1x1_S4096x4096x1_0_1_2, reducesTo_S4096x4096x1_S4096x4096_d2, gather_S4096x2048_S4096x4096x1_S4096x4096_n_1_0_0_1_2_11_wf⟩

open Read

variable (x0 x1 : S4096x2048.Idx → EReal)

/-- The six places the reference takes entries along rows: the sorted rows, the weights in their order, and the quantiles. -/
theorem val_v4 : val_main_v4 (F := Ideal) x0 = takeAlong takeFacts2048 x0 (val_main_v2 (F := Ideal) x0) := rfl
theorem val_v5 : val_main_v5 (F := Ideal) x1 = takeAlong takeFacts2048 x1 (val_main_v3 (F := Ideal) x1) := rfl
theorem val_v6 : val_main_v6 (F := Ideal) x0 = takeAlong takeFacts2048 (val_main_v0 (F := Ideal)) (val_main_v2 (F := Ideal) x0) := rfl
theorem val_v7 : val_main_v7 (F := Ideal) x1 = takeAlong takeFacts2048 (val_main_v1 (F := Ideal)) (val_main_v3 (F := Ideal) x1) := rfl
theorem val_v20 : val_main_v20 (F := Ideal) x0 x1
    = takeAlong takeFacts4096 (val_main_v4 (F := Ideal) x0) (val_main_v19 (F := Ideal) x0 x1) := rfl
theorem val_v29 : val_main_v29 (F := Ideal) x0 x1
    = takeAlong takeFacts4096 (val_main_v5 (F := Ideal) x1) (val_main_v28 (F := Ideal) x0 x1) := rfl

end Cert.ReferenceIdeal.Value

end
-- ==== Proof.RefPositions.lean ====
/-
  The positions the reference weighs by. With the equal weights 1/2048 the running sums of a row are (l + 1)/2048; the two rows' running
  sums, put together in ascending order, hold each of those twice; and of a row's running sums exactly ⌊k/2⌋ lie below entry k of that.
-/
module

public import proofs.«01_k».proof.Proof.RefSort
public import proofs.«01_k».proof.Proof.RefTake
public import Idealize.ShloMosaic.Lib.IndicatorCount
public import Idealize.ShloMosaic.Lib.Routing.OpsSearch
public import Idealize.ShloMosaic.Lib.KernelVsHost

@[expose] public section

noncomputable section

namespace Cert.ReferenceIdeal.Value

open Idealize.ShloMosaic Cert.ReferenceIdeal Cert.ReferenceIdeal.Gen Cert.Rows Read

/-- The running sum of `n + 1` weights of 1/2048. -/
def position (n : ℕ) : EReal := (((n + 1 : ℝ) / 2048 : ℝ) : EReal)

theorem position_lt (a b : ℕ) : position a < position b ↔ a < b := by
  unfold position
  rw [EReal.coe_lt_coe_iff, div_lt_div_iff_of_pos_right (by norm_num), add_lt_add_iff_right, Nat.cast_lt]

theorem position_mono {a b : ℕ} (h : a ≤ b) : position a ≤ position b := not_lt.1 fun hlt => absurd ((position_lt b a).1 hlt) (not_lt.2 h)

/-- The printed weight is 1/2048. -/
theorem weight_val : FloatOps.ofBits (F := Ideal) .f32 0x3A000000#32 = ((1 / 2048 : ℝ) : EReal) := by
  show Ideal.ofBits .f32 0x3A000000#32 = _
  simp [Ideal.ofBits, Ideal.ieee, -EReal.coe_mul]
  norm_num

/-- The printed zero is zero. -/
theorem zero_val : FloatOps.ofBits (F := Ideal) .f32 0x00000000#32 = (0 : EReal) := by
  show Ideal.ofBits .f32 0x00000000#32 = _
  simp [Ideal.ofBits, Ideal.ieee]

/-- A left fold of additions is the sum of what it adds. -/
theorem foldl_add_sum {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- Of the window's 2048 places those inside the row are `l + 1`. -/
theorem window_sum (l : Fin 2048) :
    ∑ v ∈ Finset.range 2048, (if 2047 ≤ l.val + v then ((1 / 2048 : ℝ) : EReal) else 0) = position l.val := by
  have hl := l.isLt
  have hf : (Finset.range 2048).filter (fun v => 2047 ≤ l.val + v) = Finset.Ico (2047 - l.val) 2048 := by
    ext v
    simp only [Finset.mem_filter, Finset.mem_range, Finset.mem_Ico]
    omega
  rw [← Finset.sum_filter, hf, Finset.sum_const, Nat.card_Ico, show 2048 - (2047 - l.val) = l.val + 1 by omega, ← EReal.coe_nsmul]
  unfold position
  congr 1
  rw [nsmul_eq_mul]
  push_cast
  ring

/-- The printed running sum along the rows, of an array that holds the weight everywhere. -/
theorem cumsum_apply (x : S4096x2048.Idx → EReal) (hx : ∀ j, x j = ((1 / 2048 : ℝ) : EReal)) (init : S_.Idx → EReal)
    (hi : ∀ j, init j = 0) (R : Fin 4096) (l : Fin 2048) :
    Host.reduceWindowAdd (F := Ideal) (φ := .f32) ![1, 2048] ![1, 1] ![0, 2047] ![0, 0] x init
      reduceWindows_S4096x2048_S4096x2048_w1s1p0_0_w2048s1p2047_0 h_S_ (ix2 R l) = position l.val := by
  have hR := R.isLt
  have hl := l.isLt
  unfold Host.reduceWindowAdd
  rw [Ideal.hostReduceWindowAdd_def]
  unfold Ideal.hostReduceWindowAdd
  unfold Host.reduceWindow
  refine (foldl_add_sum _ _ _).trans ?_
  have hz : (fun _ : (⟨0, ![]⟩ : Shape).Idx => init (Shape.Idx.first h_S_)) = fun _ => 0 := funext fun _ => hi _
  rw [hz, zero_add]
  refine Eq.trans ?_ (window_sum l)
  refine (congrArg List.sum (List.map_congr_left fun n _ => ?_)).trans
    ((congrArg List.sum (Routing.map_finRange_val _ fun v => if 2047 ≤ l.val + v then ((1 / 2048 : ℝ) : EReal) else 0)).trans ?_)
  · have hw0 : ((Routing.shape2 1 2048).rowMajor.symm n 0).val = 0 := by rw [Routing.symm2]; rfl
    have hw1 : ((Routing.shape2 1 2048).rowMajor.symm n 1).val = n.val := by rw [Routing.symm2]; rfl
    have hn : n.val < 2048 := (n.cast (Routing.numel2 2048)).isLt
    have hb : (∀ a : Fin 2, (![0, 2047] : Fin 2 → ℕ) a
          ≤ ((ix2 R l : S4096x2048.Idx) a).val * (![1, 1] : Fin 2 → ℕ) a + ((Routing.shape2 1 2048).rowMajor.symm n a).val
        ∧ ((ix2 R l : S4096x2048.Idx) a).val * (![1, 1] : Fin 2 → ℕ) a + ((Routing.shape2 1 2048).rowMajor.symm n a).val
          - (![0, 2047] : Fin 2 → ℕ) a < S4096x2048.size a) ↔ 2047 ≤ l.val + n.val := by
      constructor
      · intro h
        have h1 := (h 1).1
        change 2047 ≤ l.val * 1 + ((Routing.shape2 1 2048).rowMajor.symm n 1).val at h1
        omega
      · intro h a
        match a with
        | ⟨0, _⟩ =>
          show 0 ≤ R.val * 1 + ((Routing.shape2 1 2048).rowMajor.symm n 0).val
            ∧ R.val * 1 + ((Routing.shape2 1 2048).rowMajor.symm n 0).val - 0 < 4096
          omega
        | ⟨1, _⟩ =>
          show 2047 ≤ l.val * 1 + ((Routing.shape2 1 2048).rowMajor.symm n 1).val
            ∧ l.val * 1 + ((Routing.shape2 1 2048).rowMajor.symm n 1).val - 2047 < 2048
          omega
    by_cases h : 2047 ≤ l.val + n.val
    · exact (dif_pos (hb.2 h)).trans ((hx _).trans (if_pos h).symm)
    · exact (dif_neg (fun q => h (hb.1 q))).trans (if_neg h).symm
  · rw [show (Shape.numel ⟨2, ![1, 2048]⟩) = 2048 from Routing.numel2 2048]
    rw [← List.sum_toFinset _ List.nodup_range, List.toFinset_range]

variable (x0 x1 : S4096x2048.Idx → EReal)

/-- The rows of an argument, and the order that sorts each. -/
def row (x : S4096x2048.Idx → EReal) (R : Fin 4096) (l : Fin 2048) : EReal := x (ix2 R l)

/-- The sorting positions of the first argument's rows, and of the second's. -/
def sortPos (x : S4096x2048.Idx → EReal) (j : (Wide 2048).Idx) : Fin 2048 := orderPerm (row x (j 0)) (j 1)

theorem val_v2 (j : (Wide 2048).Idx) : val_main_v2 (F := Ideal) x0 j = BitVec.ofNat 32 (sortPos x0 j).val := by
  obtain ⟨R, l, rfl⟩ : ∃ R l, j = ix2 R l := ⟨_, _, eq_ix2 j⟩
  exact argsort_row x0 R l

theorem val_v3 (j : (Wide 2048).Idx) : val_main_v3 (F := Ideal) x1 j = BitVec.ofNat 32 (sortPos x1 j).val := val_v2 x1 j

/-- The rows so taken are the rows in ascending order. -/
theorem sorted0 (R : Fin 4096) (l : Fin 2048) : val_main_v4 (F := Ideal) x0 (ix2 R l) = ascending (row x0 R) l := by
  rw [val_v4, takeAlong_apply _ _ _ (val_v2 x0)]
  exact congrFun (eq_ascending (row x0 R) (orderPerm (row x0 R)) (order_monotone _)) l

theorem sorted1 (R : Fin 4096) (l : Fin 2048) : val_main_v5 (F := Ideal) x1 (ix2 R l) = ascending (row x1 R) l := sorted0 x1 R l

/-- The weights so taken are the weight. -/
theorem weights0 (j : S4096x2048.Idx) : val_main_v6 (F := Ideal) x0 j = ((1 / 2048 : ℝ) : EReal) := by
  obtain ⟨R, l, rfl⟩ : ∃ R l, j = ix2 R l := ⟨_, _, eq_ix2 j⟩
  rw [val_v6, takeAlong_apply _ _ _ (val_v2 x0)]
  exact weight_val

/-- The running sums of the weights. -/
theorem cum0 (R : Fin 4096) (l : Fin 2048) : val_main_v8 (F := Ideal) x0 (ix2 R l) = position l.val :=
  cumsum_apply _ (weights0 x0) _ (fun _ => zero_val) R l

theorem cum1 (R : Fin 4096) (l : Fin 2048) : val_main_v9 (F := Ideal) x1 (ix2 R l) = position l.val := cum0 x1 R l

/-- Put side by side, they hold each position twice. -/
theorem both_apply (R k : Fin 4096) : val_main_v10 (F := Ideal) x0 x1 (ix2 R k) = position (k.val % 2048) := by
  have hk := k.isLt
  unfold val_main_v10
  by_cases h : k.val < 2048
  · rw [concatenate_pair_apply_left (t := S4096x4096) (s₁ := S4096x2048) (s₂ := S4096x2048) 1 _ _ _ (ix2 R k) rfl (ix2 R ⟨k.val, h⟩) (fun b => by
      match b with
      | ⟨0, _⟩ => rfl
      | ⟨1, _⟩ => rfl), cum0, Nat.mod_eq_of_lt h]
  · rw [concatenate_pair_apply_right (t := S4096x4096) (s₁ := S4096x2048) (s₂ := S4096x2048) 1 _ _ _ (ix2 R k) rfl rfl (ix2 R ⟨k.val - 2048, by omega⟩) (fun b hb => by
      match b with
      | ⟨0, _⟩ => rfl
      | ⟨1, _⟩ => exact absurd rfl hb) (by
      show k.val - 2048 + 2048 = k.val
      omega), cum1]
    exact congrArg position (show k.val - 2048 = k.val % 2048 by omega)

/-- The rearrangement that puts equal positions next to each other. -/
def interleave : Equiv.Perm (Fin 4096) :=
  Equiv.ofBijective (fun k => ⟨k.val / 2 + 2048 * (k.val % 2), by have := k.isLt; omega⟩)
    (Finite.injective_iff_bijective.1 fun a b h => by
      have h' : a.val / 2 + 2048 * (a.val % 2) = b.val / 2 + 2048 * (b.val % 2) := congrArg Fin.val h
      have := a.isLt
      have := b.isLt
      exact Fin.ext (by omega))

/-- In ascending order entry `k` is the position numbered ⌊k/2⌋. -/
theorem quantile (R k : Fin 4096) : val_main_v11 (F := Ideal) x0 x1 (ix2 R k) = position (k.val / 2) := by
  unfold val_main_v11
  rw [sort_row]
  have hw : (fun k => val_main_v10 (F := Ideal) x0 x1 (ix2 R k)) = fun k : Fin 4096 => position (k.val % 2048) :=
    funext fun k => both_apply x0 x1 R k
  rw [hw, both_apply]
  have hi : ∀ k : Fin 4096, (interleave k).val % 2048 = k.val / 2 := fun k => by
    have := k.isLt
    show (k.val / 2 + 2048 * (k.val % 2)) % 2048 = k.val / 2
    omega
  have hu := ascending_unique (fun k : Fin 4096 => position (k.val % 2048)) (orderPerm _) interleave (order_monotone _)
    (fun a b hab => by
      show position _ ≤ position _
      rw [hi, hi]
      exact position_mono (Nat.div_le_div_right hab))
  refine (congrFun hu k).trans ?_
  show position _ = _
  rw [hi]

end Cert.ReferenceIdeal.Value

end
-- ==== Proof.RefQuantile.lean ====
/-
  The reference's integrand. Entry `k` of the merged positions takes both sorted rows at place ⌊k/2⌋, and is weighed by its distance from
  the entry before it: 1/2048 where `k` is even, nothing where it is odd.
-/
module

public import proofs.«01_k».proof.Proof.RefPositions

@[expose] public section

noncomputable section

namespace Cert.ReferenceIdeal.Value

open Idealize.ShloMosaic Cert.ReferenceIdeal Cert.ReferenceIdeal.Gen Cert.Rows Read

/-- Of the numbers below `N`, those below `n` are `n`. -/
theorem card_below {N n : ℕ} (h : n ≤ N) : (Finset.univ.filter fun q : Fin N => q.val < n).card = n := by
  rw [← Finset.card_range n]
  refine Finset.card_bij' (fun q _ => q.val) (fun v hv => ⟨v, (Finset.mem_range.1 hv).trans_le h⟩) ?_ ?_ ?_ ?_
  all_goals simp

/-- The printed count along the last axis: the number of ones. -/
theorem count_apply (b : IVec S4096x4096x2048 1) (R k : Fin 4096) :
    Host.reduce IntOp.addi (extui 32 b natLt_1_32) (constantI S_ 32 0#32) reducesTo_S4096x4096x2048_S4096x4096_d2 h_S_ (ix2 R k)
      = BitVec.ofNat 32 (Finset.univ.filter fun q : Fin 2048 => b (ix3 R k q) = 1#1).card := by
  have hr : S4096x4096x2048.Reduces [2] S4096x4096 := by decide
  rw [Host.reduce_eq_fold_single IntOp.addi _ _ _ hr]
  have hl : ∀ q : Fin 2048, hr.lift (ix2 R k) q = ix3 R k q := fun q => by
    funext a
    refine Fin.ext ?_
    match a with
    | ⟨0, _⟩ => rfl
    | ⟨1, _⟩ => rfl
    | ⟨2, _⟩ => rfl
  have hx : extui 32 b natLt_1_32 ∘ hr.lift (ix2 R k) = fun q : Fin 2048 => (b (ix3 R k q)).setWidth 32 :=
    funext fun q => congrArg (fun i => (b i).setWidth 32) (hl q)
  rw [hx]
  exact IndicatorCount.fold_addi_setWidth_eq_card (fun q : Fin 2048 => b (ix3 R k q)) Finset.univ

/-- Where a row's entries are the positions and the threshold is the position numbered `n`, that many lie below it; clipping to the
    row changes nothing. -/
theorem clipped_count (b : IVec S4096x4096x2048 1) (R k : Fin 4096) (n : Fin 2048)
    (hb : ∀ q : Fin 2048, b (ix3 R k q) = BitVec.ofBool (decide (position q.val < position n.val))) :
    IntOp.minsi 2047#32 (IntOp.maxsi 0#32 (Host.reduce IntOp.addi (extui 32 b natLt_1_32) (constantI S_ 32 0#32)
      reducesTo_S4096x4096x2048_S4096x4096_d2 h_S_ (ix2 R k))) = BitVec.ofNat 32 n.val := by
  have hn := n.isLt
  have hc : (Finset.univ.filter fun q : Fin 2048 => b (ix3 R k q) = 1#1).card = n.val := by
    refine Eq.trans (congrArg Finset.card (Finset.filter_congr fun q _ => ?_)) (card_below (N := 2048) hn.le)
    rw [hb, StableHlo.Predicate.ofBool_eq_one_iff, decide_eq_true_iff, position_lt]
  rw [count_apply, hc]
  refine (Routing.clip_word (x := n.val) (lo := 0) (hi := 2047) (by omega) (by omega) (by omega)).trans ?_
  congr 1
  omega

variable (x0 x1 : S4096x2048.Idx → EReal)

/-- The place an entry of the merged positions takes the sorted rows at. -/
def half (k : Fin 4096) : Fin 2048 := ⟨k.val / 2, by have := k.isLt; omega⟩

theorem place0 (j : (Wide 4096).Idx) : val_main_v19 (F := Ideal) x0 x1 j = BitVec.ofNat 32 (half (j 1)).val := by
  obtain ⟨R, k, rfl⟩ : ∃ R k, j = ix2 R k := ⟨_, _, eq_ix2 j⟩
  refine clipped_count (val_main_v16 (F := Ideal) x0 x1) R k (half k) fun q => ?_
  rw [val_main_v16_apply, val_main_v14_apply, val_main_v12_apply, val_main_v15_apply, val_main_v13_apply]
  have h1 : idx_main_v12 (idx_main_v14 (ix3 R k q)) = ix2 R q := eq_ix2 _
  have h2 : idx_main_v13 (idx_main_v15 (ix3 R k q)) = ix2 R k := eq_ix2 _
  rw [h1, h2, cum0, quantile]
  rfl

theorem place1 (j : (Wide 4096).Idx) : val_main_v28 (F := Ideal) x0 x1 j = BitVec.ofNat 32 (half (j 1)).val := by
  obtain ⟨R, k, rfl⟩ : ∃ R k, j = ix2 R k := ⟨_, _, eq_ix2 j⟩
  refine clipped_count (val_main_v25 (F := Ideal) x0 x1) R k (half k) fun q => ?_
  rw [val_main_v25_apply, val_main_v23_apply, val_main_v21_apply, val_main_v24_apply, val_main_v22_apply]
  have h1 : idx_main_v21 (idx_main_v23 (ix3 R k q)) = ix2 R q := eq_ix2 _
  have h2 : idx_main_v22 (idx_main_v24 (ix3 R k q)) = ix2 R k := eq_ix2 _
  rw [h1, h2, cum1, quantile]
  rfl

/-- The two sorted rows at that place. -/
theorem taken0 (R k : Fin 4096) : val_main_v20 (F := Ideal) x0 x1 (ix2 R k) = ascending (row x0 R) (half k) := by
  rw [val_v20, takeAlong_apply _ _ _ (place0 x0 x1)]
  exact sorted0 x0 R (half k)

theorem taken1 (R k : Fin 4096) : val_main_v29 (F := Ideal) x0 x1 (ix2 R k) = ascending (row x1 R) (half k) := by
  rw [val_v29, takeAlong_apply _ _ _ (place1 x0 x1)]
  exact sorted1 x1 R (half k)

/-- The merged positions with a zero before them: entry `k` is ⌊(k + 1)/2⌋/2048. -/
theorem padded (R : Fin 4096) (k : Fin 4097) :
    val_main_v30 (F := Ideal) x0 x1 (ix2 R k) = ((((k.val + 1) / 2 : ℕ) / 2048 : ℝ) : EReal) := by
  have hk := k.isLt
  unfold val_main_v30
  by_cases h : k.val = 0
  · rw [pad_apply_of_not_inside (t := S4096x4097) (s := S4096x4096) _ _ _ _ _ _ _ (ix2 R k) 1 (fun q => by
      have h1 : 1 ≤ k.val := q.1
      omega)]
    show (((0#32).toInt : ℝ) : EReal) = _
    rw [h]
    simp
  · rw [pad_apply_of_inside (t := S4096x4097) (s := S4096x4096) _ _ _ _ _ _ _ (ix2 R k) (ix2 R ⟨k.val - 1, by omega⟩) (fun a => by
      match a with
      | ⟨0, _⟩ =>
        show R.val = 0 + R.val * (0 + 1)
        omega
      | ⟨1, _⟩ =>
        show k.val = 1 + (k.val - 1) * (0 + 1)
        omega), quantile]
    show position ((k.val - 1) / 2) = _
    unfold position
    rw [show (k.val + 1) / 2 = (k.val - 1) / 2 + 1 by omega]
    push_cast
    rfl

/-- What an entry is weighed by. -/
theorem delta (R k : Fin 4096) :
    val_main_v33 (F := Ideal) x0 x1 (ix2 R k) = if k.val % 2 = 0 then ((1 / 2048 : ℝ) : EReal) else 0 := by
  have h1 : idx_main_v31 (ix2 R k) = ix2 R ⟨1 + k.val, by have := k.isLt; omega⟩ := eq_ix2 _
  have h2 : idx_main_v32 (ix2 R k) = ix2 R ⟨k.val, by have := k.isLt; omega⟩ := eq_ix2 _
  rw [val_main_v33_apply, val_main_v31_apply, val_main_v32_apply, h1, h2, padded, padded]
  show ((((1 + k.val + 1) / 2 : ℕ) / 2048 : ℝ) : EReal) - ((((k.val + 1) / 2 : ℕ) / 2048 : ℝ) : EReal) = _
  by_cases h : k.val % 2 = 0
  · rw [if_pos h, show (1 + k.val + 1) / 2 = (k.val + 1) / 2 + 1 by omega, ← EReal.coe_sub]
    refine congrArg _ ?_
    push_cast
    ring
  · rw [if_neg h, show (1 + k.val + 1) / 2 = (k.val + 1) / 2 by omega, ← EReal.coe_sub, sub_self]
    rfl

end Cert.ReferenceIdeal.Value

end
-- ==== Proof.RefMean.lean ====
/-
  The reference's result over the extended reals: per row the integrand summed is the row distance over 2048, and the mean over the 4096
  rows makes it the sum of all row distances times 1/2^23, what the kernel leaves.
-/
module

public import proofs.«01_k».proof.Proof.RefQuantile

@[expose] public section

noncomputable section

namespace Cert.ReferenceIdeal.Value

open Idealize.ShloMosaic Cert.ReferenceIdeal Cert.ReferenceIdeal.Gen Cert.Rows Read

/-- A gap is not negative. -/
theorem gap_nonneg (a b : EReal) : 0 ≤ gap a b := by
  unfold gap
  rcases le_total 0 (a - b) with h | h
  · exact h.trans (le_max_left _ _)
  · exact (EReal.neg_nonneg.2 h).trans (le_max_right _ _)

/-- Nor is a row distance. -/
theorem rowDistance_nonneg (u v : Fin 2048 → EReal) : 0 ≤ rowDistance u v := Finset.sum_nonneg fun _ _ => gap_nonneg _ _

/-- A sum of numbers that are not negative, times a number. -/
theorem sum_mul_coe {ι : Type} (S : Finset ι) (f : ι → EReal) (hf : ∀ i ∈ S, 0 ≤ f i) (c : EReal) :
    (∑ i ∈ S, f i) * c = ∑ i ∈ S, f i * c := by
  classical
  induction S using Finset.induction_on with
  | empty => simp
  | insert a S ha ih =>
    rw [Finset.sum_insert ha, Finset.sum_insert ha,
      EReal.right_distrib_of_nonneg (hf a (Finset.mem_insert_self _ _)) (Finset.sum_nonneg fun i hi => hf i (Finset.mem_insert_of_mem hi)),
      ih fun i hi => hf i (Finset.mem_insert_of_mem hi)]

/-- A sum over 4096 places of which the odd ones count nothing is the sum over the 2048 even ones. -/
theorem sum_even (f : Fin 2048 → EReal) :
    ∑ k : Fin 4096, (if k.val % 2 = 0 then f (half k) else 0) = ∑ l : Fin 2048, f l := by
  rw [← Finset.sum_filter]
  refine Finset.sum_bij' (fun k _ => half k) (fun l _ => ⟨2 * l.val, by have := l.isLt; omega⟩) (fun _ _ => Finset.mem_univ _) ?_ ?_ ?_ ?_
  · intro l _
    exact Finset.mem_filter.2 ⟨Finset.mem_univ _, Nat.mul_mod_right 2 l.val⟩
  · intro k hk
    have := (Finset.mem_filter.1 hk).2
    refine Fin.ext ?_
    show 2 * (k.val / 2) = k.val
    omega
  · intro l _
    refine Fin.ext ?_
    show 2 * l.val / 2 = l.val
    omega
  · intro _ _
    rfl

variable (x0 x1 : S4096x2048.Idx → EReal)

/-- One row's sum: the row distance over 2048. -/
theorem row_value (R : Fin 4096) :
    val_main_v37 (F := Ideal) x0 x1 (ix1 R) = rowDistance (row x0 R) (row x1 R) * ((1 / 2048 : ℝ) : EReal) := by
  have ht : ∀ k : Fin 4096, val_main_v36 (F := Ideal) x0 x1 (idx_main_v37 (ix1 R) k)
      = if k.val % 2 = 0 then gap (ascending (row x0 R) (half k)) (ascending (row x1 R) (half k)) * ((1 / 2048 : ℝ) : EReal) else 0 := by
    intro k
    have hi : idx_main_v37 (ix1 R) k = ix2 R k := eq_ix2 _
    rw [hi, val_main_v36_apply, val_main_v35_apply, val_main_v34_apply, taken0, taken1, delta]
    show (if k.val % 2 = 0 then ((1 / 2048 : ℝ) : EReal) else 0) * gap _ _ = _
    by_cases h : k.val % 2 = 0
    · rw [if_pos h, if_pos h, mul_comm]
    · rw [if_neg h, if_neg h, zero_mul]
  rw [val_main_v37_apply, Finset.sum_congr rfl fun k _ => ht k]
  rw [sum_even fun l => gap (ascending (row x0 R) l) (ascending (row x1 R) l) * ((1 / 2048 : ℝ) : EReal)]
  unfold rowDistance
  rw [sum_mul_coe _ _ (fun l _ => gap_nonneg _ _)]
  exact (congrArg (· + _) zero_val).trans (zero_add _)

/-- THE REFERENCE'S RESULT: the sum of all row distances times `1 / 2 ^ 23`. -/
theorem mean_value (j : S_.Idx) :
    val_main_v39 (F := Ideal) x0 x1 j = (∑ R : Fin 4096, rowDistance (row x0 R) (row x1 R)) * ((1 / 8388608 : ℝ) : EReal) := by
  have hlit : FloatOps.ofBits (F := Ideal) .f32 0x45800000#32 = ((4096 : ℝ) : EReal) := by
    show Ideal.ofBits .f32 0x45800000#32 = _
    simp [Ideal.ofBits, Ideal.ieee, -EReal.coe_mul]
    norm_num
  have hsum : val_main_v38 (F := Ideal) x0 x1 j = (∑ R : Fin 4096, rowDistance (row x0 R) (row x1 R)) * ((1 / 2048 : ℝ) : EReal) := by
    rw [val_main_v38_apply, sum_mul_coe _ _ (fun R _ => rowDistance_nonneg _ _)]
    refine ((congrArg (· + _) zero_val).trans (zero_add _)).trans ?_
    refine (Fintype.sum_equiv ⟨fun i : S4096.Idx => (i 0 : Fin 4096), fun R => ix1 R, fun i => (eq_ix1 i).symm, fun _ => rfl⟩ _ _ fun i => ?_)
    exact (congrArg (val_main_v37 (F := Ideal) x0 x1) (eq_ix1 i)).trans (row_value x0 x1 (i 0))
  rw [val_main_v39_apply, hsum]
  show Ideal.div _ (FloatOps.ofBits (F := Ideal) .f32 0x45800000#32) = _
  rw [hlit, Ideal.div_coe (by norm_num), mul_assoc, ← EReal.coe_mul]
  norm_num

end Cert.ReferenceIdeal.Value

end
-- ==== Proof.lean ====
/-
  The claims of this certificate, assembled. The kernel's two frames are generated. The reference's frame and the value claim rest on the
  generated run of the reference; both programs leave the sum of the 4096 row distances over 2^23, by `mean_apply` (Proof/KernelMean.lean)
  and `mean_value` (Proof/RefMean.lean).
-/
module

public import proofs.«01_k».proof.Proof.Gen.ReferenceIdeal.Read
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelMean
public import proofs.«01_k».proof.Proof.RefMean
public import Idealize.ShloMosaic.Adequacy
public import Idealize.ShloMosaic.Init
public import Idealize.ShloMosaic.Lib.Quiescent

@[expose] public section

noncomputable section

namespace Cert.Proof

open Idealize.ShloMosaic Idealize.SL.Sem

/-- The reference terminates without fault and leaves its arguments as they were; it has no semaphore that could end at another count. -/
theorem frame_reference : Cert.quiescent_ReferenceIdeal := by
  intro m ρ _
  refine (θ_run Cert.ReferenceIdeal.defs _ _).mono (fun r h => ?_) (Cert.ReferenceIdeal.Value.run (F := Ideal) m ρ)
  exact ⟨fun c => (h c).2, sem_eq_zero_of_no_sems (by decide) r.2⟩

/-- The mean that the kernel leaves is the reference's result on the same arguments. -/
theorem results_agree (m : (ℓ : Loc Cert.KernelIdeal.nD Cert.KernelIdeal.τ Cert.KernelIdeal.sig) → Buf (Elt Ideal) ℓ)
    (c : Dev Cert.KernelIdeal.nD) (x0 x1 : Cert.ReferenceIdeal.S4096x2048.Idx → EReal)
    (h0 : x0 = Cert.KernelIdeal.Block.arg0 m c) (h1 : x1 = Cert.KernelIdeal.Block.arg1 m c) :
    Cert.ReferenceIdeal.Read.val_main_v39 (F := Ideal) x0 x1 = Cert.KernelIdeal.Block.mean m c := by
  subst h0 h1
  funext j
  exact (Cert.ReferenceIdeal.Value.mean_value _ _ j).trans (Cert.KernelIdeal.Block.mean_apply m c j).symm

/-- From memories that agree on the arguments, the kernel and the reference end with the same extended real. -/
theorem same_value : Cert.algebraic_KernelIdeal_ReferenceIdeal := by
  intro m g m' g' _ hargs
  refine ⟨fun c => Cert.KernelIdeal.Block.mean m c, Cert.KernelIdeal.Block.run m g, ?_⟩
  refine (θ_run Cert.ReferenceIdeal.defs _ _).mono (fun r h c => ⟨?_, (h c).2⟩) (Cert.ReferenceIdeal.Value.run (F := Ideal) m' g')
  exact ((h c).1.trans (Cert.ReferenceIdeal.Read.val_main_v39_eq (F := Ideal) _)).trans
    (results_agree m c _ _ (hargs c).1 (hargs c).2)

/-- Everything that the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, same_value⟩

end Cert.Proof

end
